-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_named_and_finite [hPre_named_and_finite : Cert.Pre_named_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_named_and_finite [hPre_named_and_finite : Cert.Pre_named_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_named_and_finite [hKernelIdeal : Cert.KernelIdeal.Facts] [hPre_named_and_finite : Cert.Pre_named_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_named_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_named_and_finite [hReferenceIdeal : Cert.ReferenceIdeal.Facts] [hPre_named_and_finite : Cert.Pre_named_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_named_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "center_step" .f32 0x3E228A29#32 ((10 / 63 : ℝ) : EReal)

def algebraic_KernelIdeal_ReferenceIdeal_pre_named_and_finite [hKernelIdeal : Cert.KernelIdeal.Facts] [hReferenceIdeal : Cert.ReferenceIdeal.Facts] [hPre_named_and_finite : Cert.Pre_named_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_named_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v339) = v0 c
          ∧ r.2.mem ((c.tc : Thread Cert.ReferenceIdeal.nD Cert.ReferenceIdeal.τ).loc Cert.ReferenceIdeal.main_v299) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_named_and_finite : Cert.Pre_named_and_finite.Facts),
    quiescent_Kernel (hKernel := hKernel)
    ∧ quiescent_KernelIdeal (hKernelIdeal := hKernelIdeal)
    ∧ quiescent_KernelIdeal_pre_named_and_finite (hKernelIdeal := hKernelIdeal) (hPre_named_and_finite := hPre_named_and_finite)
    ∧ quiescent_ReferenceIdeal (hReferenceIdeal := hReferenceIdeal)
    ∧ quiescent_ReferenceIdeal_pre_named_and_finite (hReferenceIdeal := hReferenceIdeal) (hPre_named_and_finite := hPre_named_and_finite)
    ∧ preserves_Kernel_KernelIdeal
    ∧ algebraic_KernelIdeal_ReferenceIdeal_pre_named_and_finite (hKernelIdeal := hKernelIdeal) (hReferenceIdeal := hReferenceIdeal) (hPre_named_and_finite := hPre_named_and_finite)
-- ==== Pre_named_and_finite.lean ====
abbrev S2048x128 : Shape := ⟨2, ![2048, 128]⟩
abbrev S2048x3 : Shape := ⟨2, ![2048, 3]⟩
abbrev S2x2048 : Shape := ⟨2, ![2, 2048]⟩
abbrev S512x3 : Shape := ⟨2, ![512, 3]⟩
abbrev S512 : Shape := ⟨1, ![512]⟩
abbrev S2x128x128 : Shape := ⟨3, ![2, 128, 128]⟩
abbrev S2x64x8 : Shape := ⟨3, ![2, 64, 8]⟩
abbrev S2x8 : Shape := ⟨2, ![2, 8]⟩
abbrev S2x128x1 : Shape := ⟨3, ![2, 128, 1]⟩
abbrev S2x128x512 : Shape := ⟨3, ![2, 128, 512]⟩
abbrev S2x512 : Shape := ⟨2, ![2, 512]⟩
abbrev S2x512x128 : Shape := ⟨3, ![2, 512, 128]⟩
abbrev S2x128 : Shape := ⟨2, ![2, 128]⟩
abbrev S_ : Shape := ⟨0, ![]⟩
abbrev S2x2048x1x1 : Shape := ⟨4, ![2, 2048, 1, 1]⟩
abbrev S2x1x128x1 : Shape := ⟨4, ![2, 1, 128, 1]⟩
abbrev S2x2048x128x1 : Shape := ⟨4, ![2, 2048, 128, 1]⟩
abbrev S2x1x128x128 : Shape := ⟨4, ![2, 1, 128, 128]⟩
abbrev S2x2048x128x128 : Shape := ⟨4, ![2, 2048, 128, 128]⟩

class Facts : Prop where
  bcast_S_S2x2048 : S_.BroadcastsInDim S2x2048 (![] : Fin 0 → Fin S2x2048.rank)
  bcast_S_S2x128 : S_.BroadcastsInDim S2x128 (![] : Fin 0 → Fin S2x128.rank)
  bcast_S_S2x128x128 : S_.BroadcastsInDim S2x128x128 (![] : Fin 0 → Fin S2x128x128.rank)
  bcast_S2x2048_S2x2048x1x1_0_1 : S2x2048.BroadcastsInDim S2x2048x1x1 (![0, 1] : Fin 2 → Fin S2x2048x1x1.rank)
  bcast_S2x128_S2x1x128x1_0_2 : S2x128.BroadcastsInDim S2x1x128x1 (![0, 2] : Fin 2 → Fin S2x1x128x1.rank)
  bcast_S2x2048x1x1_S2x2048x128x1_0_1_2_3 : S2x2048x1x1.BroadcastsInDim S2x2048x128x1 (![0, 1, 2, 3] : Fin 4 → Fin S2x2048x128x1.rank)
  bcast_S2x1x128x1_S2x2048x128x1_0_1_2_3 : S2x1x128x1.BroadcastsInDim S2x2048x128x1 (![0, 1, 2, 3] : Fin 4 → Fin S2x2048x128x1.rank)
  bcast_S2x128x128_S2x1x128x128_0_2_3 : S2x128x128.BroadcastsInDim S2x1x128x128 (![0, 2, 3] : Fin 3 → Fin S2x1x128x128.rank)
  bcast_S2x2048x128x1_S2x2048x128x128_0_1_2_3 : S2x2048x128x1.BroadcastsInDim S2x2048x128x128 (![0, 1, 2, 3] : Fin 4 → Fin S2x2048x128x128.rank)
  bcast_S2x1x128x128_S2x2048x128x128_0_1_2_3 : S2x1x128x128.BroadcastsInDim S2x2048x128x128 (![0, 1, 2, 3] : Fin 4 → Fin S2x2048x128x128.rank)

variable [Facts]

def fn_part1 {F : FTy → Type} [FloatOps F] (main_v14 : IVec S2x128x128 1) (main_v17 : IVec S2x2048x128x1 1) (main_v18 : IVec S2x2048x128x1 1) : IVec S2x2048x128x128 1 :=
  let main_v19 : IVec S2x2048x128x1 1 := andi main_v17 main_v18
  let main_v20 : IVec S2x1x128x128 1 := broadcastInDim S2x1x128x128 ![0, 2, 3] bcast_S2x128x128_S2x1x128x128_0_2_3 main_v14
  let main_v21 : IVec S2x2048x128x128 1 := broadcastInDim S2x2048x128x128 ![0, 1, 2, 3] bcast_S2x2048x128x1_S2x2048x128x128_0_1_2_3 main_v19
  let main_v22 : IVec S2x2048x128x128 1 := broadcastInDim S2x2048x128x128 ![0, 1, 2, 3] bcast_S2x1x128x128_S2x2048x128x128_0_1_2_3 main_v20
  let main_v23 : IVec S2x2048x128x128 1 := andi main_v21 main_v22
  main_v23

def fn {F : FTy → Type} [FloatOps F] (main_arg0 : FVec F S2048x128 .f32) (main_arg1 : FVec F S2048x3 .f32) (main_arg2 : IVec S2x2048 32) (main_arg3 : FVec F S512x3 .f32) (main_arg4 : IVec S512 32) (main_arg5 : FVec F S2x128x128 .f32) (main_arg6 : FVec F S2x128x128 .f32) (main_arg7 : FVec F S2x128x128 .f32) (main_arg8 : FVec F S2x128x128 .f32) (main_arg9 : FVec F S2x64x8 .f32) (main_arg10 : FVec F S2x8 .f32) (main_arg11 : FVec F S2x128x1 .f32) (main_arg12 : FVec F S2x128x512 .f32) (main_arg13 : FVec F S2x512 .f32) (main_arg14 : FVec F S2x512x128 .f32) (main_arg15 : FVec F S2x128 .f32) (main_arg16 : FVec F S2x128 .f32) (main_arg17 : FVec F S2x128 .f32) (main_arg18 : FVec F S2x128 .f32) (main_arg19 : FVec F S2x128 .f32) : IVec S2x2048x128x128 1 :=
  let main_c : IVec S_ 32 := constantI S_ 32 0#32
  let main_v0 : IVec S2x2048 32 := broadcastInDim S2x2048 ![] bcast_S_S2x2048 main_c
  let main_v1 : IVec S2x2048 1 := cmpi .sge main_arg2 main_v0
  let main_c_0 : IVec S_ 32 := constantI S_ 32 512#32
  let main_v2 : IVec S2x2048 32 := broadcastInDim S2x2048 ![] bcast_S_S2x2048 main_c_0
  let main_v3 : IVec S2x2048 1 := cmpi .slt main_arg2 main_v2
  let main_v4 : IVec S2x2048 1 := andi main_v1 main_v3
  let main_v5 : FVec F S2x128 .f32 := Host.absf main_arg16
  let main_cst : FVec F S_ .f32 := constant S_ .f32 0x7F800000#32
  let main_v6 : FVec F S2x128 .f32 := broadcastInDim S2x128 ![] bcast_S_S2x128 main_cst
  let main_v7 : IVec S2x128 1 := cmpf .olt main_v5 main_v6
  let main_v8 : FVec F S2x128 .f32 := Host.absf main_arg17
  let main_cst_1 : FVec F S_ .f32 := constant S_ .f32 0x7F800000#32
  let main_v9 : FVec F S2x128 .f32 := broadcastInDim S2x128 ![] bcast_S_S2x128 main_cst_1
  let main_v10 : IVec S2x128 1 := cmpf .olt main_v8 main_v9
  let main_v11 : IVec S2x128 1 := andi main_v7 main_v10
  let main_v12 : FVec F S2x128x128 .f32 := Host.absf main_arg7
  let main_cst_2 : FVec F S_ .f32 := constant S_ .f32 0x7F800000#32
  let main_v13 : FVec F S2x128x128 .f32 := broadcastInDim S2x128x128 ![] bcast_S_S2x128x128 main_cst_2
  let main_v14 : IVec S2x128x128 1 := cmpf .olt main_v12 main_v13
  let main_v15 : IVec S2x2048x1x1 1 := broadcastInDim S2x2048x1x1 ![0, 1] bcast_S2x2048_S2x2048x1x1_0_1 main_v4
  let main_v16 : IVec S2x1x128x1 1 := broadcastInDim S2x1x128x1 ![0, 2] bcast_S2x128_S2x1x128x1_0_2 main_v11
  let main_v17 : IVec S2x2048x128x1 1 := broadcastInDim S2x2048x128x1 ![0, 1, 2, 3] bcast_S2x2048x1x1_S2x2048x128x1_0_1_2_3 main_v15
  let main_v18 : IVec S2x2048x128x1 1 := broadcastInDim S2x2048x128x1 ![0, 1, 2, 3] bcast_S2x1x128x1_S2x2048x128x1_0_1_2_3 main_v16
  fn_part1 (F := F) main_v14 main_v17 main_v18
-- ==== Kernel.lean ====
abbrev S2048x128 : Shape := ⟨2, ![2048, 128]⟩
abbrev S2048x3 : Shape := ⟨2, ![2048, 3]⟩
abbrev S2x2048 : Shape := ⟨2, ![2, 2048]⟩
abbrev S512x3 : Shape := ⟨2, ![512, 3]⟩
abbrev S512 : Shape := ⟨1, ![512]⟩
abbrev S2x128x128 : Shape := ⟨3, ![2, 128, 128]⟩
abbrev S2x64x8 : Shape := ⟨3, ![2, 64, 8]⟩
abbrev S2x8 : Shape := ⟨2, ![2, 8]⟩
abbrev S2x128x1 : Shape := ⟨3, ![2, 128, 1]⟩
abbrev S2x128x512 : Shape := ⟨3, ![2, 128, 512]⟩
abbrev S2x512 : Shape := ⟨2, ![2, 512]⟩
abbrev S2x512x128 : Shape := ⟨3, ![2, 512, 128]⟩
abbrev S2x128 : Shape := ⟨2, ![2, 128]⟩
abbrev S1x2048 : Shape := ⟨2, ![1, 2048]⟩
abbrev S2048 : Shape := ⟨1, ![2048]⟩
abbrev S2048x1 : Shape := ⟨2, ![2048, 1]⟩
abbrev S1x512 : Shape := ⟨2, ![1, 512]⟩
abbrev S512x1 : Shape := ⟨2, ![512, 1]⟩
abbrev S_ : Shape := ⟨0, ![]⟩
abbrev S512x8 : Shape := ⟨2, ![512, 8]⟩
abbrev S2048x8 : Shape := ⟨2, ![2048, 8]⟩
abbrev S2x1x8 : Shape := ⟨3, ![2, 1, 8]⟩
abbrev S2x1x128 : Shape := ⟨3, ![2, 1, 128]⟩
abbrev S2x1x512 : Shape := ⟨3, ![2, 1, 512]⟩
abbrev S2048x512 : Shape := ⟨2, ![2048, 512]⟩
abbrev S1x64 : Shape := ⟨2, ![1, 64]⟩
abbrev S2048x64 : Shape := ⟨2, ![2048, 64]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1x64x8 : Shape := ⟨3, ![1, 64, 8]⟩
abbrev S64x8 : Shape := ⟨2, ![64, 8]⟩
abbrev S1x1x8 : Shape := ⟨3, ![1, 1, 8]⟩
abbrev S1x8 : Shape := ⟨2, ![1, 8]⟩
abbrev S512x2048 : Shape := ⟨2, ![512, 2048]⟩
abbrev S512x16 : Shape := ⟨2, ![512, 16]⟩
abbrev S512x17 : Shape := ⟨2, ![512, 17]⟩
abbrev S2048x16 : Shape := ⟨2, ![2048, 16]⟩
abbrev S2048x17 : Shape := ⟨2, ![2048, 17]⟩
abbrev S512x128 : Shape := ⟨2, ![512, 128]⟩
abbrev S1x128x512 : Shape := ⟨3, ![1, 128, 512]⟩
abbrev S128x512 : Shape := ⟨2, ![128, 512]⟩
abbrev S1x1x512 : Shape := ⟨3, ![1, 1, 512]⟩
abbrev S1x512x128 : Shape := ⟨3, ![1, 512, 128]⟩

abbrev nBuf : Space → Nat
  | .hbm => 47
  | .vmem => 24
  | .smem => 0
  | _ => 0

abbrev bufTy : (tb : Table) → Fin (tcTables nBuf tb) → BufTy
  | .hbm, ⟨0, _⟩ => ⟨S2048x128, .f32⟩
  | .hbm, ⟨1, _⟩ => ⟨S2048x3, .f32⟩
  | .hbm, ⟨2, _⟩ => ⟨S2x2048, .i32⟩
  | .hbm, ⟨3, _⟩ => ⟨S512x3, .f32⟩
  | .hbm, ⟨4, _⟩ => ⟨S512, .i32⟩
  | .hbm, ⟨5, _⟩ => ⟨S2x128x128, .f32⟩
  | .hbm, ⟨6, _⟩ => ⟨S2x128x128, .f32⟩
  | .hbm, ⟨7, _⟩ => ⟨S2x128x128, .f32⟩
  | .hbm, ⟨8, _⟩ => ⟨S2x128x128, .f32⟩
  | .hbm, ⟨9, _⟩ => ⟨S2x64x8, .f32⟩
  | .hbm, ⟨10, _⟩ => ⟨S2x8, .f32⟩
  | .hbm, ⟨11, _⟩ => ⟨S2x128x1, .f32⟩
  | .hbm, ⟨12, _⟩ => ⟨S2x128x512, .f32⟩
  | .hbm, ⟨13, _⟩ => ⟨S2x512, .f32⟩
  | .hbm, ⟨14, _⟩ => ⟨S2x512x128, .f32⟩
  | .hbm, ⟨15, _⟩ => ⟨S2x128, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S2x128, .f32⟩
  | .hbm, ⟨20, _⟩ => ⟨S1x2048, .i32⟩
  | .hbm, ⟨21, _⟩ => ⟨S2048, .i32⟩
  | .hbm, ⟨22, _⟩ => ⟨S2048x1, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S512x1, .f32⟩
  | .hbm, ⟨30, _⟩ => ⟨S_, .i32⟩
  | .hbm, ⟨31, _⟩ => ⟨S_, .f32⟩
  | .hbm, ⟨32, _⟩ => ⟨S512x8, .f32⟩
  | .hbm, ⟨33, _⟩ => ⟨S_, .i32⟩
  | .hbm, ⟨34, _⟩ => ⟨S_, .f32⟩
  | .hbm, ⟨35, _⟩ => ⟨S2048x8, .f32⟩
  | .hbm, ⟨36, _⟩ => ⟨S2x1x8, .f32⟩
  | .hbm, ⟨37, _⟩ => ⟨S2x1x128, .f32⟩
  | .hbm, ⟨38, _⟩ => ⟨S2x1x512, .f32⟩
  | .hbm, ⟨39, _⟩ => ⟨S2x1x128, .f32⟩
  | .hbm, ⟨40, _⟩ => ⟨S2x1x128, .f32⟩
  | .hbm, ⟨41, _⟩ => ⟨S2x1x128, .f32⟩
  | .hbm, ⟨42, _⟩ => ⟨S2x1x128, .f32⟩
  | .hbm, ⟨43, _⟩ => ⟨S2x1x128, .f32⟩
  | .hbm, ⟨44, _⟩ => ⟨S2048x128, .f32⟩
  | .hbm, ⟨45, _⟩ => ⟨S2048x8, .f32⟩
  | .hbm, ⟨46, _⟩ => ⟨S2048x3, .f32⟩
  | .local _ .vmem, ⟨0, _⟩ => ⟨S2048x1, .i32⟩
  | .local _ .vmem, ⟨1, _⟩ => ⟨S2048x1, .i32⟩
  | .local _ .vmem, ⟨2, _⟩ => ⟨S1x512, .f32⟩
  | .local _ .vmem, ⟨3, _⟩ => ⟨S512x1, .f32⟩
  | .local _ .vmem, ⟨4, _⟩ => ⟨S512x8, .f32⟩
  | .local _ .vmem, ⟨5, _⟩ => ⟨S2048x128, .f32⟩
  | .local _ .vmem, ⟨6, _⟩ => ⟨S2048x8, .f32⟩
  | .local _ .vmem, ⟨7, _⟩ => ⟨S2x128x128, .f32⟩
  | .local _ .vmem, ⟨8, _⟩ => ⟨S2x128x128, .f32⟩
  | .local _ .vmem, ⟨9, _⟩ => ⟨S2x128x128, .f32⟩
  | .local _ .vmem, ⟨10, _⟩ => ⟨S2x128x128, .f32⟩
  | .local _ .vmem, ⟨11, _⟩ => ⟨S2x64x8, .f32⟩
  | .local _ .vmem, ⟨12, _⟩ => ⟨S2x1x8, .f32⟩
  | .local _ .vmem, ⟨13, _⟩ => ⟨S2x1x128, .f32⟩
  | .local _ .vmem, ⟨14, _⟩ => ⟨S2x128x512, .f32⟩
  | .local _ .vmem, ⟨15, _⟩ => ⟨S2x1x512, .f32⟩
  | .local _ .vmem, ⟨16, _⟩ => ⟨S2x512x128, .f32⟩
  | .local _ .vmem, ⟨17, _⟩ => ⟨S2x1x128, .f32⟩
  | .local _ .vmem, ⟨18, _⟩ => ⟨S2x1x128, .f32⟩
  | .local _ .vmem, ⟨19, _⟩ => ⟨S2x1x128, .f32⟩
  | .local _ .vmem, ⟨20, _⟩ => ⟨S2x1x128, .f32⟩
  | .local _ .vmem, ⟨21, _⟩ => ⟨S2x1x128, .f32⟩
  | .local _ .vmem, ⟨22, _⟩ => ⟨S2048x128, .f32⟩
  | .local _ .vmem, ⟨23, _⟩ => ⟨S2048x8, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_call0_v0 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev main_v21 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2048x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2048x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== KernelIdeal.lean ====
variable {F : FTy → Type} [FloatOps F] [Named F]
def κ : String → Option EReal := fun
  | "center_step" => some ((10 / 63 : ℝ) : EReal)
  | _ => none
-- ==== ReferenceIdeal.lean ====
abbrev S2048x128 : Shape := ⟨2, ![2048, 128]⟩
abbrev S2048x3 : Shape := ⟨2, ![2048, 3]⟩
abbrev S2x2048 : Shape := ⟨2, ![2, 2048]⟩
abbrev S512x3 : Shape := ⟨2, ![512, 3]⟩
abbrev S512 : Shape := ⟨1, ![512]⟩
abbrev S2x128x128 : Shape := ⟨3, ![2, 128, 128]⟩
abbrev S2x64x8 : Shape := ⟨3, ![2, 64, 8]⟩
abbrev S2x8 : Shape := ⟨2, ![2, 8]⟩
abbrev S2x128x1 : Shape := ⟨3, ![2, 128, 1]⟩
abbrev S2x128x512 : Shape := ⟨3, ![2, 128, 512]⟩
abbrev S2x512 : Shape := ⟨2, ![2, 512]⟩
abbrev S2x512x128 : Shape := ⟨3, ![2, 512, 128]⟩
abbrev S2x128 : Shape := ⟨2, ![2, 128]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S2048x2048 : Shape := ⟨2, ![2048, 2048]⟩
abbrev S63 : Shape := ⟨1, ![63]⟩
abbrev S1 : Shape := ⟨1, ![1]⟩
abbrev S64 : Shape := ⟨1, ![64]⟩
abbrev S1x64 : Shape := ⟨2, ![1, 64]⟩
abbrev S2048x64 : Shape := ⟨2, ![2048, 64]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2048x8x16 : Shape := ⟨3, ![2048, 8, 16]⟩
abbrev S8x2048x16 : Shape := ⟨3, ![8, 2048, 16]⟩
abbrev S1x64x8 : Shape := ⟨3, ![1, 64, 8]⟩
abbrev S64x8 : Shape := ⟨2, ![64, 8]⟩
abbrev S2048x8 : Shape := ⟨2, ![2048, 8]⟩
abbrev S1x8 : Shape := ⟨2, ![1, 8]⟩
abbrev S8 : Shape := ⟨1, ![8]⟩
abbrev S8x2048x2048 : Shape := ⟨3, ![8, 2048, 2048]⟩
abbrev S8x2048 : Shape := ⟨2, ![8, 2048]⟩
abbrev S8x1x2048 : Shape := ⟨3, ![8, 1, 2048]⟩
abbrev S1x2048x2048 : Shape := ⟨3, ![1, 2048, 2048]⟩
abbrev S8x2048x1 : Shape := ⟨3, ![8, 2048, 1]⟩
abbrev S1x128x1 : Shape := ⟨3, ![1, 128, 1]⟩
abbrev S128x1 : Shape := ⟨2, ![128, 1]⟩
abbrev S1x128x512 : Shape := ⟨3, ![1, 128, 512]⟩
abbrev S128x512 : Shape := ⟨2, ![128, 512]⟩
abbrev S2048x512 : Shape := ⟨2, ![2048, 512]⟩
abbrev S1x512 : Shape := ⟨2, ![1, 512]⟩
abbrev S1x512x128 : Shape := ⟨3, ![1, 512, 128]⟩
abbrev S512x128 : Shape := ⟨2, ![512, 128]⟩

abbrev nBuf : Space → Nat
  | .hbm => 556
  | .vmem => 0
  | .smem => 0
  | _ => 0

abbrev hbmTy0_0 (i : Nat) : BufTy := match i % 128 with
  | 0 => ⟨S2048x128, .f32⟩
  | 1 => ⟨S2048x3, .f32⟩
  | 2 => ⟨S2x2048, .i32⟩
  | 3 => ⟨S512x3, .f32⟩
  | 4 => ⟨S512, .i32⟩
  | 5 => ⟨S2x128x128, .f32⟩
  | 6 => ⟨S2x128x128, .f32⟩
  | 7 => ⟨S2x128x128, .f32⟩
  | 8 => ⟨S2x128x128, .f32⟩
  | 9 => ⟨S2x64x8, .f32⟩
  | 10 => ⟨S2x8, .f32⟩
  | 11 => ⟨S2x128x1, .f32⟩
  | 12 => ⟨S2x128x512, .f32⟩
  | 13 => ⟨S2x512, .f32⟩
  | 14 => ⟨S2x512x128, .f32⟩
  | 15 => ⟨S2x128, .f32⟩
  | 16 => ⟨S2x128, .f32⟩
  | 17 => ⟨S2x128, .f32⟩
  | 18 => ⟨S2x128, .f32⟩
  | 19 => ⟨S2x128, .f32⟩
  | 20 => ⟨S1x2048, .i32⟩
  | 21 => ⟨S2048, .i32⟩
  | 22 => ⟨S1x2048, .i32⟩
  | 23 => ⟨S2048, .i32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S2048, .i32⟩
  | 33 => ⟨S2048x1, .i32⟩
  | 34 => ⟨S1x2048, .i32⟩
  | 35 => ⟨S2048x2048, .i32⟩
  | 36 => ⟨S2048x2048, .i32⟩
  | 37 => ⟨S2048x2048, .i1⟩
  | 38 => ⟨S2048x2048, .i1⟩
  | 39 => ⟨S_, .i32⟩
  | 40 => ⟨S2048, .i32⟩
  | 41 => ⟨S2048, .i1⟩
  | 42 => ⟨S_, .i32⟩
  | 43 => ⟨S2048, .i32⟩
  | 44 => ⟨S2048, .i32⟩
  | 45 => ⟨S2048, .i32⟩
  | 46 => ⟨S2048x1, .i32⟩
  | 47 => ⟨S2048x3, .f32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S2048x3, .f32⟩
  | 57 => ⟨S2048x3, .f32⟩
  | 58 => ⟨S2048x3, .f32⟩
  | 59 => ⟨S_, .f32⟩
  | 60 => ⟨S2048, .f32⟩
  | 61 => ⟨S_, .f32⟩
  | 62 => ⟨S2048, .f32⟩
  | 63 => ⟨S2048, .f32⟩
  | 64 => ⟨S2048, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S63, .f32⟩
  | 73 => ⟨S_, .f32⟩
  | 74 => ⟨S63, .f32⟩
  | 75 => ⟨S63, .f32⟩
  | 76 => ⟨S1, .f32⟩
  | 77 => ⟨S_, .f32⟩
  | 78 => ⟨S63, .f32⟩
  | 79 => ⟨S63, .f32⟩
  | 80 => ⟨S63, .f32⟩
  | 81 => ⟨S63, .f32⟩
  | 82 => ⟨S1, .f32⟩
  | 83 => ⟨S63, .f32⟩
  | 84 => ⟨S63, .f32⟩
  | 85 => ⟨S63, .f32⟩
  | 86 => ⟨S1, .f32⟩
  | 87 => ⟨S64, .f32⟩
  | 88 => ⟨S_, .f32⟩
  | 89 => ⟨S_, .f32⟩
  | 90 => ⟨S_, .f32⟩
  | 91 => ⟨S2048, .f32⟩
  | 92 => ⟨S2048, .f32⟩
  | 93 => ⟨S_, .f32⟩
  | 94 => ⟨S2048, .f32⟩
  | 95 => ⟨S2048, .f32⟩
  | 96 => ⟨S_, .f32⟩
  | 97 => ⟨S2048, .f32⟩
  | 98 => ⟨S2048, .f32⟩
  | 99 => ⟨S_, .f32⟩
  | 100 => ⟨S2048, .f32⟩
  | 101 => ⟨S2048, .f32⟩
  | 102 => ⟨S2048, .f32⟩
  | 103 => ⟨S_, .f32⟩
  | 104 => ⟨S2048, .f32⟩
  | 105 => ⟨S2048, .f32⟩
  | 106 => ⟨S_, .f32⟩
  | 107 => ⟨S2048, .f32⟩
  | 108 => ⟨S2048, .f32⟩
  | 109 => ⟨S2048x1, .f32⟩
  | 110 => ⟨S1x64, .f32⟩
  | 111 => ⟨S2048x64, .f32⟩
  | 112 => ⟨S2048x64, .f32⟩
  | 113 => ⟨S2048x64, .f32⟩
  | 114 => ⟨S2048x64, .f32⟩
  | 115 => ⟨S_, .f32⟩
  | 116 => ⟨S2048x64, .f32⟩
  | 117 => ⟨S2048x64, .f32⟩
  | 118 => ⟨S2048x64, .f32⟩
  | 119 => ⟨S2048x1, .f32⟩
  | 120 => ⟨S2048x64, .f32⟩
  | 121 => ⟨S2048x64, .f32⟩
  | 122 => ⟨S1x128, .f32⟩
  | 123 => ⟨S128, .f32⟩
  | 124 => ⟨S1x128, .f32⟩
  | 125 => ⟨S128, .f32⟩
  | 126 => ⟨S_, .f32⟩
  | 127 => ⟨S2048, .f32⟩
  | _ => ⟨S2048x128, .f32⟩

abbrev hbmTy0_1 (i : Nat) : BufTy := match i % 128 with
  | 0 => ⟨S2048x1, .f32⟩
  | 1 => ⟨S_, .f32⟩
  | 2 => ⟨S2048x1, .f32⟩
  | 3 => ⟨S2048x1, .f32⟩
  | 4 => ⟨S_, .i32⟩
  | 5 => ⟨S_, .f32⟩
  | 6 => ⟨S2048, .f32⟩
  | 7 => ⟨S2048x1, .f32⟩
  | 8 => ⟨S_, .f32⟩
  | 9 => ⟨S2048x1, .f32⟩
  | 10 => ⟨S2048x1, .f32⟩
  | 11 => ⟨S2048x128, .f32⟩
  | 12 => ⟨S2048x128, .f32⟩
  | 13 => ⟨S2048x128, .f32⟩
  | 14 => ⟨S_, .f32⟩
  | 15 => ⟨S_, .f32⟩
  | 16 => ⟨S_, .f32⟩
  | 17 => ⟨S_, .f32⟩
  | 18 => ⟨S2048, .f32⟩
  | 19 => ⟨S2048x1, .f32⟩
  | 20 => ⟨S2048x1, .f32⟩
  | 21 => ⟨S2048x1, .f32⟩
  | 22 => ⟨S_, .f32⟩
  | 23 => ⟨S_, .i1⟩
  | 24 => ⟨S_, .f32⟩
  | 25 => ⟨S_, .f32⟩
  | 26 => ⟨S2048x1, .f32⟩
  | 27 => ⟨S2048x1, .f32⟩
  | 28 => ⟨S2048x128, .f32⟩
  | 29 => ⟨S2048x128, .f32⟩
  | 30 => ⟨S_, .f32⟩
  | 31 => ⟨S2048x1, .f32⟩
  | 32 => ⟨S2048x1, .f32⟩
  | 33 => ⟨S2048x1, .f32⟩
  | 34 => ⟨S2048x128, .f32⟩
  | 35 => ⟨S2048x128, .f32⟩
  | 36 => ⟨S1x128, .f32⟩
  | 37 => ⟨S2048x128, .f32⟩
  | 38 => ⟨S2048x128, .f32⟩
  | 39 => ⟨S1x128, .f32⟩
  | 40 => ⟨S2048x128, .f32⟩
  | 41 => ⟨S2048x128, .f32⟩
  | 42 => ⟨S1x128x128, .f32⟩
  | 43 => ⟨S128x128, .f32⟩
  | 44 => ⟨S2048x128, .f32⟩
  | 45 => ⟨S2048x8x16, .f32⟩
  | 46 => ⟨S8x2048x16, .f32⟩
  | 47 => ⟨S1x128x128, .f32⟩
  | 48 => ⟨S128x128, .f32⟩
  | 49 => ⟨S2048x128, .f32⟩
  | 50 => ⟨S2048x8x16, .f32⟩
  | 51 => ⟨S8x2048x16, .f32⟩
  | 52 => ⟨S1x128x128, .f32⟩
  | 53 => ⟨S128x128, .f32⟩
  | 54 => ⟨S2048x128, .f32⟩
  | 55 => ⟨S2048x8x16, .f32⟩
  | 56 => ⟨S8x2048x16, .f32⟩
  | 57 => ⟨S1x64x8, .f32⟩
  | 58 => ⟨S64x8, .f32⟩
  | 59 => ⟨S2048x8, .f32⟩
  | 60 => ⟨S1x8, .f32⟩
  | 61 => ⟨S8, .f32⟩
  | 62 => ⟨S1x8, .f32⟩
  | 63 => ⟨S2048x8, .f32⟩
  | 64 => ⟨S2048x8, .f32⟩
  | 65 => ⟨S8x2048x2048, .f32⟩
  | 66 => ⟨S_, .f32⟩
  | 67 => ⟨S_, .f32⟩
  | 68 => ⟨S_, .f32⟩
  | 69 => ⟨S8x2048x2048, .f32⟩
  | 70 => ⟨S8x2048x2048, .f32⟩
  | 71 => ⟨S8x2048, .f32⟩
  | 72 => ⟨S8x1x2048, .f32⟩
  | 73 => ⟨S8x2048x2048, .f32⟩
  | 74 => ⟨S8x2048x2048, .f32⟩
  | 75 => ⟨S1x2048x2048, .i1⟩
  | 76 => ⟨S_, .f32⟩
  | 77 => ⟨S_, .f32⟩
  | 78 => ⟨S8x2048x2048, .i1⟩
  | 79 => ⟨S8x2048x2048, .f32⟩
  | 80 => ⟨S8x2048x2048, .f32⟩
  | 81 => ⟨S_, .f32⟩
  | 82 => ⟨S8x2048, .f32⟩
  | 83 => ⟨S_, .f32⟩
  | 84 => ⟨S8x2048, .f32⟩
  | 85 => ⟨S8x2048, .f32⟩
  | 86 => ⟨S8x2048x1, .f32⟩
  | 87 => ⟨S8x2048x2048, .f32⟩
  | 88 => ⟨S8x2048x2048, .f32⟩
  | 89 => ⟨S8x2048x2048, .f32⟩
  | 90 => ⟨S_, .f32⟩
  | 91 => ⟨S8x2048, .f32⟩
  | 92 => ⟨S8x2048x1, .f32⟩
  | 93 => ⟨S8x2048x2048, .f32⟩
  | 94 => ⟨S8x2048x2048, .f32⟩
  | 95 => ⟨S1x2048x2048, .i1⟩
  | 96 => ⟨S_, .f32⟩
  | 97 => ⟨S_, .f32⟩
  | 98 => ⟨S8x2048x2048, .i1⟩
  | 99 => ⟨S8x2048x2048, .f32⟩
  | 100 => ⟨S8x2048x2048, .f32⟩
  | 101 => ⟨S_, .f32⟩
  | 102 => ⟨S8x2048, .f32⟩
  | 103 => ⟨S_, .f32⟩
  | 104 => ⟨S8x2048, .f32⟩
  | 105 => ⟨S8x2048, .f32⟩
  | 106 => ⟨S8x2048x1, .f32⟩
  | 107 => ⟨S8x2048x2048, .f32⟩
  | 108 => ⟨S8x2048x2048, .f32⟩
  | 109 => ⟨S8x2048x2048, .f32⟩
  | 110 => ⟨S_, .f32⟩
  | 111 => ⟨S8x2048, .f32⟩
  | 112 => ⟨S8x2048x1, .f32⟩
  | 113 => ⟨S8x2048x2048, .f32⟩
  | 114 => ⟨S8x2048x2048, .f32⟩
  | 115 => ⟨S8x2048x16, .f32⟩
  | 116 => ⟨S8x2048x16, .f32⟩
  | 117 => ⟨S8x2048x16, .f32⟩
  | 118 => ⟨S2048x8x16, .f32⟩
  | 119 => ⟨S2048x128, .f32⟩
  | 120 => ⟨S1x128x128, .f32⟩
  | 121 => ⟨S128x128, .f32⟩
  | 122 => ⟨S2048x128, .f32⟩
  | 123 => ⟨S2048x128, .f32⟩
  | 124 => ⟨S1x128x1, .f32⟩
  | 125 => ⟨S128x1, .f32⟩
  | 126 => ⟨S2048x1, .f32⟩
  | 127 => ⟨S2048x1, .f32⟩
  | _ => ⟨S2048x128, .f32⟩

abbrev hbmTy0_2 (i : Nat) : BufTy := match i % 128 with
  | 0 => ⟨S_, .f32⟩
  | 1 => ⟨S2048x2048, .f32⟩
  | 2 => ⟨S_, .f32⟩
  | 3 => ⟨S2048x2048, .f32⟩
  | 4 => ⟨S2048x2048, .f32⟩
  | 5 => ⟨S2048x3, .f32⟩
  | 6 => ⟨S2048x3, .f32⟩
  | 7 => ⟨S2048x3, .f32⟩
  | 8 => ⟨S2048x3, .f32⟩
  | 9 => ⟨S1x128, .f32⟩
  | 10 => ⟨S128, .f32⟩
  | 11 => ⟨S1x128, .f32⟩
  | 12 => ⟨S128, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S_, .i32⟩
  | 20 => ⟨S_, .f32⟩
  | 21 => ⟨S2048, .f32⟩
  | 22 => ⟨S2048x1, .f32⟩
  | 23 => ⟨S_, .f32⟩
  | 24 => ⟨S2048x1, .f32⟩
  | 25 => ⟨S2048x1, .f32⟩
  | 26 => ⟨S2048x128, .f32⟩
  | 27 => ⟨S2048x128, .f32⟩
  | 28 => ⟨S2048x128, .f32⟩
  | 29 => ⟨S_, .f32⟩
  | 30 => ⟨S_, .f32⟩
  | 31 => ⟨S_, .f32⟩
  | 32 => ⟨S_, .f32⟩
  | 33 => ⟨S2048, .f32⟩
  | 34 => ⟨S2048x1, .f32⟩
  | 35 => ⟨S2048x1, .f32⟩
  | 36 => ⟨S2048x1, .f32⟩
  | 37 => ⟨S_, .f32⟩
  | 38 => ⟨S_, .i1⟩
  | 39 => ⟨S_, .f32⟩
  | 40 => ⟨S_, .f32⟩
  | 41 => ⟨S2048x1, .f32⟩
  | 42 => ⟨S2048x1, .f32⟩
  | 43 => ⟨S2048x128, .f32⟩
  | 44 => ⟨S2048x128, .f32⟩
  | 45 => ⟨S_, .f32⟩
  | 46 => ⟨S2048x1, .f32⟩
  | 47 => ⟨S2048x1, .f32⟩
  | 48 => ⟨S2048x1, .f32⟩
  | 49 => ⟨S2048x128, .f32⟩
  | 50 => ⟨S2048x128, .f32⟩
  | 51 => ⟨S1x128, .f32⟩
  | 52 => ⟨S2048x128, .f32⟩
  | 53 => ⟨S2048x128, .f32⟩
  | 54 => ⟨S1x128, .f32⟩
  | 55 => ⟨S2048x128, .f32⟩
  | 56 => ⟨S2048x128, .f32⟩
  | 57 => ⟨S1x128x512, .f32⟩
  | 58 => ⟨S128x512, .f32⟩
  | 59 => ⟨S2048x512, .f32⟩
  | 60 => ⟨S1x512, .f32⟩
  | 61 => ⟨S512, .f32⟩
  | 62 => ⟨S1x512, .f32⟩
  | 63 => ⟨S2048x512, .f32⟩
  | 64 => ⟨S2048x512, .f32⟩
  | 65 => ⟨S2048x512, .f32⟩
  | 66 => ⟨S2048x512, .f32⟩
  | 67 => ⟨S_, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S2048x512, .f32⟩
  | 74 => ⟨S1x512x128, .f32⟩
  | 75 => ⟨S512x128, .f32⟩
  | 76 => ⟨S2048x128, .f32⟩
  | 77 => ⟨S1x128, .f32⟩
  | 78 => ⟨S128, .f32⟩
  | 79 => ⟨S1x128, .f32⟩
  | 80 => ⟨S2048x128, .f32⟩
  | 81 => ⟨S2048x128, .f32⟩
  | 82 => ⟨S2048x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S2048, .f32⟩
  | 89 => ⟨S2048x1, .f32⟩
  | 90 => ⟨S_, .f32⟩
  | 91 => ⟨S2048x1, .f32⟩
  | 92 => ⟨S2048x1, .f32⟩
  | 93 => ⟨S_, .i32⟩
  | 94 => ⟨S_, .f32⟩
  | 95 => ⟨S2048, .f32⟩
  | 96 => ⟨S2048x1, .f32⟩
  | 97 => ⟨S_, .f32⟩
  | 98 => ⟨S2048x1, .f32⟩
  | 99 => ⟨S2048x1, .f32⟩
  | 100 => ⟨S2048x128, .f32⟩
  | 101 => ⟨S2048x128, .f32⟩
  | 102 => ⟨S2048x128, .f32⟩
  | 103 => ⟨S_, .f32⟩
  | 104 => ⟨S_, .f32⟩
  | 105 => ⟨S_, .f32⟩
  | 106 => ⟨S_, .f32⟩
  | 107 => ⟨S2048, .f32⟩
  | 108 => ⟨S2048x1, .f32⟩
  | 109 => ⟨S2048x1, .f32⟩
  | 110 => ⟨S2048x1, .f32⟩
  | 111 => ⟨S_, .f32⟩
  | 112 => ⟨S_, .i1⟩
  | 113 => ⟨S_, .f32⟩
  | 114 => ⟨S_, .f32⟩
  | 115 => ⟨S2048x1, .f32⟩
  | 116 => ⟨S2048x1, .f32⟩
  | 117 => ⟨S2048x128, .f32⟩
  | 118 => ⟨S2048x128, .f32⟩
  | 119 => ⟨S_, .f32⟩
  | 120 => ⟨S2048x1, .f32⟩
  | 121 => ⟨S2048x1, .f32⟩
  | 122 => ⟨S2048x1, .f32⟩
  | 123 => ⟨S2048x128, .f32⟩
  | 124 => ⟨S2048x128, .f32⟩
  | 125 => ⟨S1x128, .f32⟩
  | 126 => ⟨S2048x128, .f32⟩
  | 127 => ⟨S2048x128, .f32⟩
  | _ => ⟨S2048x128, .f32⟩

abbrev hbmTy0_3 (i : Nat) : BufTy := match i % 128 with
  | 0 => ⟨S1x128, .f32⟩
  | 1 => ⟨S2048x128, .f32⟩
  | 2 => ⟨S2048x128, .f32⟩
  | 3 => ⟨S1x128x128, .f32⟩
  | 4 => ⟨S128x128, .f32⟩
  | 5 => ⟨S2048x128, .f32⟩
  | 6 => ⟨S2048x8x16, .f32⟩
  | 7 => ⟨S8x2048x16, .f32⟩
  | 8 => ⟨S1x128x128, .f32⟩
  | 9 => ⟨S128x128, .f32⟩
  | 10 => ⟨S2048x128, .f32⟩
  | 11 => ⟨S2048x8x16, .f32⟩
  | 12 => ⟨S8x2048x16, .f32⟩
  | 13 => ⟨S1x128x128, .f32⟩
  | 14 => ⟨S128x128, .f32⟩
  | 15 => ⟨S2048x128, .f32⟩
  | 16 => ⟨S2048x8x16, .f32⟩
  | 17 => ⟨S8x2048x16, .f32⟩
  | 18 => ⟨S1x64x8, .f32⟩
  | 19 => ⟨S64x8, .f32⟩
  | 20 => ⟨S2048x8, .f32⟩
  | 21 => ⟨S1x8, .f32⟩
  | 22 => ⟨S8, .f32⟩
  | 23 => ⟨S1x8, .f32⟩
  | 24 => ⟨S2048x8, .f32⟩
  | 25 => ⟨S2048x8, .f32⟩
  | 26 => ⟨S8x2048x2048, .f32⟩
  | 27 => ⟨S_, .f32⟩
  | 28 => ⟨S_, .f32⟩
  | 29 => ⟨S_, .f32⟩
  | 30 => ⟨S8x2048x2048, .f32⟩
  | 31 => ⟨S8x2048x2048, .f32⟩
  | 32 => ⟨S8x2048, .f32⟩
  | 33 => ⟨S8x1x2048, .f32⟩
  | 34 => ⟨S8x2048x2048, .f32⟩
  | 35 => ⟨S8x2048x2048, .f32⟩
  | 36 => ⟨S1x2048x2048, .i1⟩
  | 37 => ⟨S_, .f32⟩
  | 38 => ⟨S_, .f32⟩
  | 39 => ⟨S8x2048x2048, .i1⟩
  | 40 => ⟨S8x2048x2048, .f32⟩
  | 41 => ⟨S8x2048x2048, .f32⟩
  | 42 => ⟨S_, .f32⟩
  | 43 => ⟨S8x2048, .f32⟩
  | 44 => ⟨S_, .f32⟩
  | 45 => ⟨S8x2048, .f32⟩
  | 46 => ⟨S8x2048, .f32⟩
  | 47 => ⟨S8x2048x1, .f32⟩
  | 48 => ⟨S8x2048x2048, .f32⟩
  | 49 => ⟨S8x2048x2048, .f32⟩
  | 50 => ⟨S8x2048x2048, .f32⟩
  | 51 => ⟨S_, .f32⟩
  | 52 => ⟨S8x2048, .f32⟩
  | 53 => ⟨S8x2048x1, .f32⟩
  | 54 => ⟨S8x2048x2048, .f32⟩
  | 55 => ⟨S8x2048x2048, .f32⟩
  | 56 => ⟨S1x2048x2048, .i1⟩
  | 57 => ⟨S_, .f32⟩
  | 58 => ⟨S_, .f32⟩
  | 59 => ⟨S8x2048x2048, .i1⟩
  | 60 => ⟨S8x2048x2048, .f32⟩
  | 61 => ⟨S8x2048x2048, .f32⟩
  | 62 => ⟨S_, .f32⟩
  | 63 => ⟨S8x2048, .f32⟩
  | 64 => ⟨S_, .f32⟩
  | 65 => ⟨S8x2048, .f32⟩
  | 66 => ⟨S8x2048, .f32⟩
  | 67 => ⟨S8x2048x1, .f32⟩
  | 68 => ⟨S8x2048x2048, .f32⟩
  | 69 => ⟨S8x2048x2048, .f32⟩
  | 70 => ⟨S8x2048x2048, .f32⟩
  | 71 => ⟨S_, .f32⟩
  | 72 => ⟨S8x2048, .f32⟩
  | 73 => ⟨S8x2048x1, .f32⟩
  | 74 => ⟨S8x2048x2048, .f32⟩
  | 75 => ⟨S8x2048x2048, .f32⟩
  | 76 => ⟨S8x2048x16, .f32⟩
  | 77 => ⟨S8x2048x16, .f32⟩
  | 78 => ⟨S8x2048x16, .f32⟩
  | 79 => ⟨S2048x8x16, .f32⟩
  | 80 => ⟨S2048x128, .f32⟩
  | 81 => ⟨S1x128x128, .f32⟩
  | 82 => ⟨S128x128, .f32⟩
  | 83 => ⟨S2048x128, .f32⟩
  | 84 => ⟨S2048x128, .f32⟩
  | 85 => ⟨S1x128x1, .f32⟩
  | 86 => ⟨S128x1, .f32⟩
  | 87 => ⟨S2048x1, .f32⟩
  | 88 => ⟨S2048x1, .f32⟩
  | 89 => ⟨S_, .f32⟩
  | 90 => ⟨S2048x2048, .f32⟩
  | 91 => ⟨S_, .f32⟩
  | 92 => ⟨S2048x2048, .f32⟩
  | 93 => ⟨S2048x2048, .f32⟩
  | 94 => ⟨S2048x3, .f32⟩
  | 95 => ⟨S2048x3, .f32⟩
  | 96 => ⟨S2048x3, .f32⟩
  | 97 => ⟨S2048x3, .f32⟩
  | 98 => ⟨S1x128, .f32⟩
  | 99 => ⟨S128, .f32⟩
  | 100 => ⟨S1x128, .f32⟩
  | 101 => ⟨S128, .f32⟩
  | 102 => ⟨S_, .f32⟩
  | 103 => ⟨S2048, .f32⟩
  | 104 => ⟨S2048x1, .f32⟩
  | 105 => ⟨S_, .f32⟩
  | 106 => ⟨S2048x1, .f32⟩
  | 107 => ⟨S2048x1, .f32⟩
  | 108 => ⟨S_, .i32⟩
  | 109 => ⟨S_, .f32⟩
  | 110 => ⟨S2048, .f32⟩
  | 111 => ⟨S2048x1, .f32⟩
  | 112 => ⟨S_, .f32⟩
  | 113 => ⟨S2048x1, .f32⟩
  | 114 => ⟨S2048x1, .f32⟩
  | 115 => ⟨S2048x128, .f32⟩
  | 116 => ⟨S2048x128, .f32⟩
  | 117 => ⟨S2048x128, .f32⟩
  | 118 => ⟨S_, .f32⟩
  | 119 => ⟨S_, .f32⟩
  | 120 => ⟨S_, .f32⟩
  | 121 => ⟨S_, .f32⟩
  | 122 => ⟨S2048, .f32⟩
  | 123 => ⟨S2048x1, .f32⟩
  | 124 => ⟨S2048x1, .f32⟩
  | 125 => ⟨S2048x1, .f32⟩
  | 126 => ⟨S_, .f32⟩
  | 127 => ⟨S_, .i1⟩
  | _ => ⟨S2048x128, .f32⟩

abbrev hbmTy0_4 (i : Nat) : BufTy := match i % 128 with
  | 0 => ⟨S_, .f32⟩
  | 1 => ⟨S_, .f32⟩
  | 2 => ⟨S2048x1, .f32⟩
  | 3 => ⟨S2048x1, .f32⟩
  | 4 => ⟨S2048x128, .f32⟩
  | 5 => ⟨S2048x128, .f32⟩
  | 6 => ⟨S_, .f32⟩
  | 7 => ⟨S2048x1, .f32⟩
  | 8 => ⟨S2048x1, .f32⟩
  | 9 => ⟨S2048x1, .f32⟩
  | 10 => ⟨S2048x128, .f32⟩
  | 11 => ⟨S2048x128, .f32⟩
  | 12 => ⟨S1x128, .f32⟩
  | 13 => ⟨S2048x128, .f32⟩
  | 14 => ⟨S2048x128, .f32⟩
  | 15 => ⟨S1x128, .f32⟩
  | 16 => ⟨S2048x128, .f32⟩
  | 17 => ⟨S2048x128, .f32⟩
  | 18 => ⟨S1x128x512, .f32⟩
  | 19 => ⟨S128x512, .f32⟩
  | 20 => ⟨S2048x512, .f32⟩
  | 21 => ⟨S1x512, .f32⟩
  | 22 => ⟨S512, .f32⟩
  | 23 => ⟨S1x512, .f32⟩
  | 24 => ⟨S2048x512, .f32⟩
  | 25 => ⟨S2048x512, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S2048x512, .f32⟩
  | 35 => ⟨S1x512x128, .f32⟩
  | 36 => ⟨S512x128, .f32⟩
  | 37 => ⟨S2048x128, .f32⟩
  | 38 => ⟨S1x128, .f32⟩
  | 39 => ⟨S128, .f32⟩
  | 40 => ⟨S1x128, .f32⟩
  | 41 => ⟨S2048x128, .f32⟩
  | 42 => ⟨S2048x128, .f32⟩
  | 43 => ⟨S2048x128, .f32⟩
  | _ => ⟨S2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_3 : Ref sig .tc := ⟨.hbm, 48, rfl⟩
abbrev main_v24 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_cst : Ref sig .tc := ⟨.hbm, 70, rfl⟩
abbrev main_call0_v3 : Ref sig .tc := ⟨.hbm, 71, rfl⟩
abbrev main_call0_v4 : Ref sig .tc := ⟨.hbm, 72, rfl⟩
abbrev main_call0_cst_0 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_call0_v15 : Ref sig .tc := ⟨.hbm, 85, rfl⟩
abbrev main_call0_v16 : Ref sig .tc := ⟨.hbm, 86, rfl⟩
abbrev main_v37 : Ref sig .tc := ⟨.hbm, 87, rfl⟩
abbrev main_cst_8 : Ref sig .tc := ⟨.hbm, 88, rfl⟩
abbrev main_cst_9 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v38 : Ref sig .tc := ⟨.hbm, 95, rfl⟩
abbrev main_cst_10 : Ref sig .tc := ⟨.hbm, 96, rfl⟩
abbrev main_v39 : Ref sig .tc := ⟨.hbm, 97, rfl⟩
abbrev main_v40 : Ref sig .tc := ⟨.hbm, 98, rfl⟩
abbrev main_cst_11 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_12 : Ref sig .tc := ⟨.hbm, 103, rfl⟩
abbrev main_v44 : Ref sig .tc := ⟨.hbm, 104, rfl⟩
abbrev main_v45 : Ref sig .tc := ⟨.hbm, 105, rfl⟩
abbrev main_cst_13 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_cst_14 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_15 : Ref sig .tc := ⟨.hbm, 126, rfl⟩
abbrev main_v64 : Ref sig .tc := ⟨.hbm, 127, rfl⟩
abbrev main_v65 : Ref sig .tc := ⟨.hbm, 128, rfl⟩
abbrev main_cst_16 : Ref sig .tc := ⟨.hbm, 129, rfl⟩
abbrev main_v66 : Ref sig .tc := ⟨.hbm, 130, rfl⟩
abbrev main_v67 : Ref sig .tc := ⟨.hbm, 131, rfl⟩
abbrev main_c_17 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_cst_1 : Ref sig .tc := ⟨.hbm, 143, rfl⟩
abbrev main_call2_v8 : Ref sig .tc := ⟨.hbm, 144, rfl⟩
abbrev main_call2_cst_2 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_v12 : Ref sig .tc := ⟨.hbm, 149, rfl⟩
abbrev main_call2_cst_3 : Ref sig .tc := ⟨.hbm, 150, rfl⟩
abbrev main_call2_v13 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_cst_18 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_19 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_cst_20 : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_v115 : Ref sig .tc := ⟨.hbm, 208, rfl⟩
abbrev main_cst_21 : Ref sig .tc := ⟨.hbm, 209, rfl⟩
abbrev main_v116 : Ref sig .tc := ⟨.hbm, 210, rfl⟩
abbrev main_cst_22 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_cst_23 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_24 : Ref sig .tc := ⟨.hbm, 224, rfl⟩
abbrev main_call4_v0 : Ref sig .tc := ⟨.hbm, 225, rfl⟩
abbrev main_call4_v1 : Ref sig .tc := ⟨.hbm, 226, rfl⟩
abbrev main_call4_v2 : Ref sig .tc := ⟨.hbm, 227, rfl⟩
abbrev main_v128 : Ref sig .tc := ⟨.hbm, 228, rfl⟩
abbrev main_cst_25 : Ref sig .tc := ⟨.hbm, 229, rfl⟩
abbrev main_v129 : Ref sig .tc := ⟨.hbm, 230, rfl⟩
abbrev main_cst_26 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_cst_27 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_cst_28 : Ref sig .tc := ⟨.hbm, 256, rfl⟩
abbrev main_v153 : Ref sig .tc := ⟨.hbm, 257, rfl⟩
abbrev main_cst_29 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_cst_30 : Ref sig .tc := ⟨.hbm, 269, rfl⟩
abbrev main_v164 : Ref sig .tc := ⟨.hbm, 270, rfl⟩
abbrev main_v165 : Ref sig .tc := ⟨.hbm, 271, rfl⟩
abbrev main_cst_31 : Ref sig .tc := ⟨.hbm, 272, rfl⟩
abbrev main_v166 : Ref sig .tc := ⟨.hbm, 273, rfl⟩
abbrev main_v167 : Ref sig .tc := ⟨.hbm, 274, rfl⟩
abbrev main_c_32 : Ref sig .tc := ⟨.hbm, 275, rfl⟩
abbrev main_call5_cst : Ref sig .tc := ⟨.hbm, 276, rfl⟩
abbrev main_call5_v0 : Ref sig .tc := ⟨.hbm, 277, rfl⟩
abbrev main_call5_v1 : Ref sig .tc := ⟨.hbm, 278, rfl⟩
abbrev main_call5_cst_0 : Ref sig .tc := ⟨.hbm, 279, rfl⟩
abbrev main_call5_v2 : Ref sig .tc := ⟨.hbm, 280, rfl⟩
abbrev main_call5_v3 : Ref sig .tc := ⟨.hbm, 281, rfl⟩
abbrev main_call5_v4 : Ref sig .tc := ⟨.hbm, 282, rfl⟩
abbrev main_call5_v5 : Ref sig .tc := ⟨.hbm, 283, rfl⟩
abbrev main_call5_v6 : Ref sig .tc := ⟨.hbm, 284, rfl⟩
abbrev main_call5_v7 : Ref sig .tc := ⟨.hbm, 285, rfl⟩
abbrev main_call5_cst_1 : Ref sig .tc := ⟨.hbm, 286, rfl⟩
abbrev main_call5_v8 : Ref sig .tc := ⟨.hbm, 287, rfl⟩
abbrev main_call5_cst_2 : Ref sig .tc := ⟨.hbm, 288, rfl⟩
abbrev main_call5_v9 : Ref sig .tc := ⟨.hbm, 289, rfl⟩
abbrev main_call5_v10 : Ref sig .tc := ⟨.hbm, 290, rfl⟩
abbrev main_call5_v11 : Ref sig .tc := ⟨.hbm, 291, rfl⟩
abbrev main_call5_v12 : Ref sig .tc := ⟨.hbm, 292, rfl⟩
abbrev main_call5_cst_3 : Ref sig .tc := ⟨.hbm, 293, rfl⟩
abbrev main_call5_v13 : Ref sig .tc := ⟨.hbm, 294, rfl⟩
abbrev main_call5_cst_4 : Ref sig .tc := ⟨.hbm, 295, rfl⟩
abbrev main_call5_call0_v0 : Ref sig .tc := ⟨.hbm, 296, rfl⟩
abbrev main_call5_call0_v1 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_cst_33 : Ref sig .tc := ⟨.hbm, 301, rfl⟩
abbrev main_v171 : Ref sig .tc := ⟨.hbm, 302, rfl⟩
abbrev main_v172 : Ref sig .tc := ⟨.hbm, 303, rfl⟩
abbrev main_v173 : Ref sig .tc := ⟨.hbm, 304, rfl⟩
abbrev main_v174 : Ref sig .tc := ⟨.hbm, 305, rfl⟩
abbrev main_v175 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_call6_v0 : Ref sig .tc := ⟨.hbm, 321, rfl⟩
abbrev main_call6_v1 : Ref sig .tc := ⟨.hbm, 322, rfl⟩
abbrev main_call6_cst : Ref sig .tc := ⟨.hbm, 323, rfl⟩
abbrev main_call6_v2 : Ref sig .tc := ⟨.hbm, 324, rfl⟩
abbrev main_call6_v3 : Ref sig .tc := ⟨.hbm, 325, rfl⟩
abbrev main_call6_cst_0 : Ref sig .tc := ⟨.hbm, 326, rfl⟩
abbrev main_call6_v4 : Ref sig .tc := ⟨.hbm, 327, rfl⟩
abbrev main_call6_v5 : Ref sig .tc := ⟨.hbm, 328, rfl⟩
abbrev main_v190 : Ref sig .tc := ⟨.hbm, 329, rfl⟩
abbrev main_v191 : Ref sig .tc := ⟨.hbm, 330, rfl⟩
abbrev main_v192 : Ref sig .tc := ⟨.hbm, 331, rfl⟩
abbrev main_v193 : Ref sig .tc := ⟨.hbm, 332, rfl⟩
abbrev main_v194 : Ref sig .tc := ⟨.hbm, 333, rfl⟩
abbrev main_v195 : Ref sig .tc := ⟨.hbm, 334, rfl⟩
abbrev main_v196 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_v203 : Ref sig .tc := ⟨.hbm, 342, rfl⟩
abbrev main_cst_34 : Ref sig .tc := ⟨.hbm, 343, rfl⟩
abbrev main_v204 : Ref sig .tc := ⟨.hbm, 344, rfl⟩
abbrev main_v205 : Ref sig .tc := ⟨.hbm, 345, rfl⟩
abbrev main_cst_35 : Ref sig .tc := ⟨.hbm, 346, rfl⟩
abbrev main_v206 : Ref sig .tc := ⟨.hbm, 347, rfl⟩
abbrev main_v207 : Ref sig .tc := ⟨.hbm, 348, rfl⟩
abbrev main_c_36 : Ref sig .tc := ⟨.hbm, 349, rfl⟩
abbrev main_call7_cst : Ref sig .tc := ⟨.hbm, 350, rfl⟩
abbrev main_call7_v0 : Ref sig .tc := ⟨.hbm, 351, rfl⟩
abbrev main_call7_v1 : Ref sig .tc := ⟨.hbm, 352, rfl⟩
abbrev main_call7_cst_0 : Ref sig .tc := ⟨.hbm, 353, rfl⟩
abbrev main_call7_v2 : Ref sig .tc := ⟨.hbm, 354, rfl⟩
abbrev main_call7_v3 : Ref sig .tc := ⟨.hbm, 355, rfl⟩
abbrev main_call7_v4 : Ref sig .tc := ⟨.hbm, 356, rfl⟩
abbrev main_call7_v5 : Ref sig .tc := ⟨.hbm, 357, rfl⟩
abbrev main_call7_v6 : Ref sig .tc := ⟨.hbm, 358, rfl⟩
abbrev main_call7_v7 : Ref sig .tc := ⟨.hbm, 359, rfl⟩
abbrev main_call7_cst_1 : Ref sig .tc := ⟨.hbm, 360, rfl⟩
abbrev main_call7_v8 : Ref sig .tc := ⟨.hbm, 361, rfl⟩
abbrev main_call7_cst_2 : Ref sig .tc := ⟨.hbm, 362, rfl⟩
abbrev main_call7_v9 : Ref sig .tc := ⟨.hbm, 363, rfl⟩
abbrev main_call7_v10 : Ref sig .tc := ⟨.hbm, 364, rfl⟩
abbrev main_call7_v11 : Ref sig .tc := ⟨.hbm, 365, rfl⟩
abbrev main_call7_v12 : Ref sig .tc := ⟨.hbm, 366, rfl⟩
abbrev main_call7_cst_3 : Ref sig .tc := ⟨.hbm, 367, rfl⟩
abbrev main_call7_v13 : Ref sig .tc := ⟨.hbm, 368, rfl⟩
abbrev main_call7_cst_4 : Ref sig .tc := ⟨.hbm, 369, rfl⟩
abbrev main_call7_call0_v0 : Ref sig .tc := ⟨.hbm, 370, rfl⟩
abbrev main_call7_call0_v1 : Ref sig .tc := ⟨.hbm, 371, rfl⟩
abbrev main_v208 : Ref sig .tc := ⟨.hbm, 372, rfl⟩
abbrev main_v209 : Ref sig .tc := ⟨.hbm, 373, rfl⟩
abbrev main_v210 : Ref sig .tc := ⟨.hbm, 374, rfl⟩
abbrev main_cst_37 : Ref sig .tc := ⟨.hbm, 375, rfl⟩
abbrev main_v211 : Ref sig .tc := ⟨.hbm, 376, rfl⟩
abbrev main_v212 : Ref sig .tc := ⟨.hbm, 377, rfl⟩
abbrev main_v213 : Ref sig .tc := ⟨.hbm, 378, rfl⟩
abbrev main_v214 : Ref sig .tc := ⟨.hbm, 379, rfl⟩
abbrev main_v215 : Ref sig .tc := ⟨.hbm, 380, rfl⟩
abbrev main_v216 : Ref sig .tc := ⟨.hbm, 381, rfl⟩
abbrev main_v217 : Ref sig .tc := ⟨.hbm, 382, rfl⟩
abbrev main_v218 : Ref sig .tc := ⟨.hbm, 383, rfl⟩
abbrev main_v219 : Ref sig .tc := ⟨.hbm, 384, rfl⟩
abbrev main_v220 : Ref sig .tc := ⟨.hbm, 385, rfl⟩
abbrev main_v221 : Ref sig .tc := ⟨.hbm, 386, rfl⟩
abbrev main_v222 : Ref sig .tc := ⟨.hbm, 387, rfl⟩
abbrev main_v223 : Ref sig .tc := ⟨.hbm, 388, rfl⟩
abbrev main_v224 : Ref sig .tc := ⟨.hbm, 389, rfl⟩
abbrev main_v225 : Ref sig .tc := ⟨.hbm, 390, rfl⟩
abbrev main_v226 : Ref sig .tc := ⟨.hbm, 391, rfl⟩
abbrev main_v227 : Ref sig .tc := ⟨.hbm, 392, rfl⟩
abbrev main_v228 : Ref sig .tc := ⟨.hbm, 393, rfl⟩
abbrev main_v229 : Ref sig .tc := ⟨.hbm, 394, rfl⟩
abbrev main_v230 : Ref sig .tc := ⟨.hbm, 395, rfl⟩
abbrev main_v231 : Ref sig .tc := ⟨.hbm, 396, rfl⟩
abbrev main_v232 : Ref sig .tc := ⟨.hbm, 397, rfl⟩
abbrev main_v233 : Ref sig .tc := ⟨.hbm, 398, rfl⟩
abbrev main_v234 : Ref sig .tc := ⟨.hbm, 399, rfl⟩
abbrev main_v235 : Ref sig .tc := ⟨.hbm, 400, rfl⟩
abbrev main_v236 : Ref sig .tc := ⟨.hbm, 401, rfl⟩
abbrev main_v237 : Ref sig .tc := ⟨.hbm, 402, rfl⟩
abbrev main_v238 : Ref sig .tc := ⟨.hbm, 403, rfl⟩
abbrev main_v239 : Ref sig .tc := ⟨.hbm, 404, rfl⟩
abbrev main_v240 : Ref sig .tc := ⟨.hbm, 405, rfl⟩
abbrev main_v241 : Ref sig .tc := ⟨.hbm, 406, rfl⟩
abbrev main_v242 : Ref sig .tc := ⟨.hbm, 407, rfl⟩
abbrev main_v243 : Ref sig .tc := ⟨.hbm, 408, rfl⟩
abbrev main_v244 : Ref sig .tc := ⟨.hbm, 409, rfl⟩
abbrev main_v245 : Ref sig .tc := ⟨.hbm, 410, rfl⟩
abbrev main_cst_38 : Ref sig .tc := ⟨.hbm, 411, rfl⟩
abbrev main_v246 : Ref sig .tc := ⟨.hbm, 412, rfl⟩
abbrev main_v247 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_v251 : Ref sig .tc := ⟨.hbm, 417, rfl⟩
abbrev main_v252 : Ref sig .tc := ⟨.hbm, 418, rfl⟩
abbrev main_v253 : Ref sig .tc := ⟨.hbm, 419, rfl⟩
abbrev main_v254 : Ref sig .tc := ⟨.hbm, 420, rfl⟩
abbrev main_cst_39 : Ref sig .tc := ⟨.hbm, 421, rfl⟩
abbrev main_call8_v0 : Ref sig .tc := ⟨.hbm, 422, rfl⟩
abbrev main_call8_v1 : Ref sig .tc := ⟨.hbm, 423, rfl⟩
abbrev main_call8_v2 : Ref sig .tc := ⟨.hbm, 424, rfl⟩
abbrev main_v255 : Ref sig .tc := ⟨.hbm, 425, rfl⟩
abbrev main_cst_40 : Ref sig .tc := ⟨.hbm, 426, rfl⟩
abbrev main_v256 : Ref sig .tc := ⟨.hbm, 427, rfl⟩
abbrev main_cst_41 : Ref sig .tc := ⟨.hbm, 428, rfl⟩
abbrev main_v257 : Ref sig .tc := ⟨.hbm, 429, rfl⟩
abbrev main_v258 : Ref sig .tc := ⟨.hbm, 430, rfl⟩
abbrev main_v259 : Ref sig .tc := ⟨.hbm, 431, rfl⟩
abbrev main_v260 : Ref sig .tc := ⟨.hbm, 432, rfl⟩
abbrev main_v261 : Ref sig .tc := ⟨.hbm, 433, rfl⟩
abbrev main_v262 : Ref sig .tc := ⟨.hbm, 434, rfl⟩
abbrev main_cst_42 : Ref sig .tc := ⟨.hbm, 435, rfl⟩
abbrev main_v263 : Ref sig .tc := ⟨.hbm, 436, rfl⟩
abbrev main_v264 : Ref sig .tc := ⟨.hbm, 437, rfl⟩
abbrev main_v265 : Ref sig .tc := ⟨.hbm, 438, rfl⟩
abbrev main_v266 : Ref sig .tc := ⟨.hbm, 439, rfl⟩
abbrev main_v267 : Ref sig .tc := ⟨.hbm, 440, rfl⟩
abbrev main_cst_43 : Ref sig .tc := ⟨.hbm, 441, rfl⟩
abbrev main_call9_v0 : Ref sig .tc := ⟨.hbm, 442, rfl⟩
abbrev main_call9_v1 : Ref sig .tc := ⟨.hbm, 443, rfl⟩
abbrev main_call9_v2 : Ref sig .tc := ⟨.hbm, 444, rfl⟩
abbrev main_v268 : Ref sig .tc := ⟨.hbm, 445, rfl⟩
abbrev main_cst_44 : Ref sig .tc := ⟨.hbm, 446, rfl⟩
abbrev main_v269 : Ref sig .tc := ⟨.hbm, 447, rfl⟩
abbrev main_cst_45 : Ref sig .tc := ⟨.hbm, 448, rfl⟩
abbrev main_v270 : Ref sig .tc := ⟨.hbm, 449, rfl⟩
abbrev main_v271 : Ref sig .tc := ⟨.hbm, 450, rfl⟩
abbrev main_v272 : Ref sig .tc := ⟨.hbm, 451, rfl⟩
abbrev main_v273 : Ref sig .tc := ⟨.hbm, 452, rfl⟩
abbrev main_v274 : Ref sig .tc := ⟨.hbm, 453, rfl⟩
abbrev main_v275 : Ref sig .tc := ⟨.hbm, 454, rfl⟩
abbrev main_cst_46 : Ref sig .tc := ⟨.hbm, 455, rfl⟩
abbrev main_v276 : Ref sig .tc := ⟨.hbm, 456, rfl⟩
abbrev main_v277 : Ref sig .tc := ⟨.hbm, 457, rfl⟩
abbrev main_v278 : Ref sig .tc := ⟨.hbm, 458, rfl⟩
abbrev main_v279 : Ref sig .tc := ⟨.hbm, 459, rfl⟩
abbrev main_v280 : Ref sig .tc := ⟨.hbm, 460, rfl⟩
abbrev main_v281 : Ref sig .tc := ⟨.hbm, 461, rfl⟩
abbrev main_v282 : Ref sig .tc := ⟨.hbm, 462, rfl⟩
abbrev main_v283 : Ref sig .tc := ⟨.hbm, 463, rfl⟩
abbrev main_v284 : Ref sig .tc := ⟨.hbm, 464, rfl⟩
abbrev main_v285 : Ref sig .tc := ⟨.hbm, 465, rfl⟩
abbrev main_v286 : Ref sig .tc := ⟨.hbm, 466, rfl⟩
abbrev main_v287 : Ref sig .tc := ⟨.hbm, 467, rfl⟩
abbrev main_v288 : Ref sig .tc := ⟨.hbm, 468, rfl⟩
abbrev main_v289 : Ref sig .tc := ⟨.hbm, 469, rfl⟩
abbrev main_v290 : Ref sig .tc := ⟨.hbm, 470, rfl⟩
abbrev main_v291 : Ref sig .tc := ⟨.hbm, 471, rfl⟩
abbrev main_v292 : Ref sig .tc := ⟨.hbm, 472, rfl⟩
abbrev main_cst_47 : Ref sig .tc := ⟨.hbm, 473, rfl⟩
abbrev main_v293 : Ref sig .tc := ⟨.hbm, 474, rfl⟩
abbrev main_cst_48 : Ref sig .tc := ⟨.hbm, 475, rfl⟩
abbrev main_v294 : Ref sig .tc := ⟨.hbm, 476, rfl⟩
abbrev main_v295 : Ref sig .tc := ⟨.hbm, 477, rfl⟩
abbrev main_v296 : Ref sig .tc := ⟨.hbm, 478, rfl⟩
abbrev main_v297 : Ref sig .tc := ⟨.hbm, 479, rfl⟩
abbrev main_v298 : Ref sig .tc := ⟨.hbm, 480, rfl⟩
abbrev main_v299 : Ref sig .tc := ⟨.hbm, 481, rfl⟩
abbrev main_v300 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_cst_49 : Ref sig .tc := ⟨.hbm, 486, rfl⟩
abbrev main_v304 : Ref sig .tc := ⟨.hbm, 487, rfl⟩
abbrev main_v305 : Ref sig .tc := ⟨.hbm, 488, rfl⟩
abbrev main_cst_50 : Ref sig .tc := ⟨.hbm, 489, rfl⟩
abbrev main_v306 : Ref sig .tc := ⟨.hbm, 490, rfl⟩
abbrev main_v307 : Ref sig .tc := ⟨.hbm, 491, rfl⟩
abbrev main_c_51 : Ref sig .tc := ⟨.hbm, 492, rfl⟩
abbrev main_call10_cst : Ref sig .tc := ⟨.hbm, 493, rfl⟩
abbrev main_call10_v0 : Ref sig .tc := ⟨.hbm, 494, rfl⟩
abbrev main_call10_v1 : Ref sig .tc := ⟨.hbm, 495, rfl⟩
abbrev main_call10_cst_0 : Ref sig .tc := ⟨.hbm, 496, rfl⟩
abbrev main_call10_v2 : Ref sig .tc := ⟨.hbm, 497, rfl⟩
abbrev main_call10_v3 : Ref sig .tc := ⟨.hbm, 498, rfl⟩
abbrev main_call10_v4 : Ref sig .tc := ⟨.hbm, 499, rfl⟩
abbrev main_call10_v5 : Ref sig .tc := ⟨.hbm, 500, rfl⟩
abbrev main_call10_v6 : Ref sig .tc := ⟨.hbm, 501, rfl⟩
abbrev main_call10_v7 : Ref sig .tc := ⟨.hbm, 502, rfl⟩
abbrev main_call10_cst_1 : Ref sig .tc := ⟨.hbm, 503, rfl⟩
abbrev main_call10_v8 : Ref sig .tc := ⟨.hbm, 504, rfl⟩
abbrev main_call10_cst_2 : Ref sig .tc := ⟨.hbm, 505, rfl⟩
abbrev main_call10_v9 : Ref sig .tc := ⟨.hbm, 506, rfl⟩
abbrev main_call10_v10 : Ref sig .tc := ⟨.hbm, 507, rfl⟩
abbrev main_call10_v11 : Ref sig .tc := ⟨.hbm, 508, rfl⟩
abbrev main_call10_v12 : Ref sig .tc := ⟨.hbm, 509, rfl⟩
abbrev main_call10_cst_3 : Ref sig .tc := ⟨.hbm, 510, rfl⟩
abbrev main_call10_v13 : Ref sig .tc := ⟨.hbm, 511, rfl⟩
abbrev main_call10_cst_4 : Ref sig .tc := ⟨.hbm, 512, rfl⟩
abbrev main_call10_call0_v0 : Ref sig .tc := ⟨.hbm, 513, rfl⟩
abbrev main_call10_call0_v1 : Ref sig .tc := ⟨.hbm, 514, rfl⟩
abbrev main_v308 : Ref sig .tc := ⟨.hbm, 515, rfl⟩
abbrev main_v309 : Ref sig .tc := ⟨.hbm, 516, rfl⟩
abbrev main_v310 : Ref sig .tc := ⟨.hbm, 517, rfl⟩
abbrev main_cst_52 : Ref sig .tc := ⟨.hbm, 518, rfl⟩
abbrev main_v311 : Ref sig .tc := ⟨.hbm, 519, rfl⟩
abbrev main_v312 : Ref sig .tc := ⟨.hbm, 520, rfl⟩
abbrev main_v313 : Ref sig .tc := ⟨.hbm, 521, rfl⟩
abbrev main_v314 : Ref sig .tc := ⟨.hbm, 522, rfl⟩
abbrev main_v315 : Ref sig .tc := ⟨.hbm, 523, rfl⟩
abbrev main_v316 : Ref sig .tc := ⟨.hbm, 524, rfl⟩
abbrev main_v317 : Ref sig .tc := ⟨.hbm, 525, rfl⟩
abbrev main_v318 : Ref sig .tc := ⟨.hbm, 526, rfl⟩
abbrev main_v319 : Ref sig .tc := ⟨.hbm, 527, rfl⟩
abbrev main_v320 : Ref sig .tc := ⟨.hbm, 528, rfl⟩
abbrev main_v321 : Ref sig .tc := ⟨.hbm, 529, rfl⟩
abbrev main_v322 : Ref sig .tc := ⟨.hbm, 530, rfl⟩
abbrev main_v323 : Ref sig .tc := ⟨.hbm, 531, rfl⟩
abbrev main_v324 : Ref sig .tc := ⟨.hbm, 532, rfl⟩
abbrev main_v325 : Ref sig .tc := ⟨.hbm, 533, rfl⟩
abbrev main_v326 : Ref sig .tc := ⟨.hbm, 534, rfl⟩
abbrev main_v327 : Ref sig .tc := ⟨.hbm, 535, rfl⟩
abbrev main_v328 : Ref sig .tc := ⟨.hbm, 536, rfl⟩
abbrev main_v329 : Ref sig .tc := ⟨.hbm, 537, rfl⟩
abbrev main_call11_v0 : Ref sig .tc := ⟨.hbm, 538, rfl⟩
abbrev main_call11_v1 : Ref sig .tc := ⟨.hbm, 539, rfl⟩
abbrev main_call11_cst : Ref sig .tc := ⟨.hbm, 540, rfl⟩
abbrev main_call11_v2 : Ref sig .tc := ⟨.hbm, 541, rfl⟩
abbrev main_call11_v3 : Ref sig .tc := ⟨.hbm, 542, rfl⟩
abbrev main_call11_cst_0 : Ref sig .tc := ⟨.hbm, 543, rfl⟩
abbrev main_call11_v4 : Ref sig .tc := ⟨.hbm, 544, rfl⟩
abbrev main_call11_v5 : Ref sig .tc := ⟨.hbm, 545, rfl⟩
abbrev main_v330 : Ref sig .tc := ⟨.hbm, 546, rfl⟩
abbrev main_v331 : Ref sig .tc := ⟨.hbm, 547, rfl⟩
abbrev main_v332 : Ref sig .tc := ⟨.hbm, 548, rfl⟩
abbrev main_v333 : Ref sig .tc := ⟨.hbm, 549, rfl⟩
abbrev main_v334 : Ref sig .tc := ⟨.hbm, 550, rfl⟩
abbrev main_v335 : Ref sig .tc := ⟨.hbm, 551, rfl⟩
abbrev main_v336 : Ref sig .tc := ⟨.hbm, 552, rfl⟩
abbrev main_v337 : Ref sig .tc := ⟨.hbm, 553, rfl⟩
abbrev main_v338 : Ref sig .tc := ⟨.hbm, 554, rfl⟩
abbrev main_v339 : Ref sig .tc := ⟨.hbm, 555, rfl⟩

abbrev nD : Nat := 1
abbrev τ : Topo := Topo.v7x

variable {F : FTy → Type} [FloatOps F]
-- ==== Proof.KStruct.lean ====
/-
  The kernel's body written as a short program over whole arrays: one layer of the network as a function of the
  features, the coordinates and that layer's weights, its attention cut in four tiles of rows and eight heads.
  Everything here is stated for any float type and is used in `KBody.lean` to name what the body leaves.
-/
module

public import proofs.«01_k».proof.Proof.Gen.KernelIdeal.Frame

@[expose] public section

noncomputable section

namespace Cert.KernelIdeal.Net

open Idealize.ShloMosaic Cert.KernelIdeal Cert.KernelIdeal.Gen

variable {F : FTy → Type} [FloatOps F] [Named F]

/-! ## Blocks of rows and columns -/

/-- Tile `t` takes 512 rows from row `512 t`, head `h` takes 16 columns from column `16 h`: inside the array. -/
theorem slRow (t : Fin 4) (h : Fin 8) : S2048x128.Slices ![512 * t.val, 16 * h.val] S512x16 := by
  revert t h; decide

/-- Head `h` takes 16 columns from column `16 h` of all the rows. -/
theorem slCol (h : Fin 8) : S2048x128.Slices ![0, 16 * h.val] S2048x16 := by
  revert h; decide

/-- Head `h` takes column `h` of the eight bias columns. -/
theorem slBias (h : Fin 8) : S2048x8.Slices ![0, h.val] S2048x1 := by
  revert h; decide

/-- Tile `t` takes 512 entries from row `512 t` of a column. -/
theorem slTile (t : Fin 4) : S2048x1.Slices ![512 * t.val, 0] S512x1 := by
  revert t; decide

/-! ## Attention -/

/-- The value standing for minus infinity in the masked logits. -/
def neg : FVec F S512x2048 .f32 := broadcast S512x2048 (Scalar.ofBits .f32 0xCE6E6B28#32)

/-- A column of ones. -/
def ones : FVec F S512x1 .f32 := broadcast S512x1 (Scalar.ofBits .f32 0x3F800000#32)

/-- Where the row's block equals the column's block, for the rows of tile `t`. -/
def mask (ec : FVec F S2048x1 .f32) (er : FVec F S1x2048 .f32) (t : Fin 4) : IVec S512x2048 1 :=
  cmpf .oeq (broadcastTo S512x2048 (extractStridedSlice S512x1 ![512 * t.val, 0] ec (slTile t)) broadcasts_S512x1_S512x2048)
    (broadcastTo S512x2048 er broadcasts_S1x2048_S512x2048)

/-- The logits of head `h` for the rows of tile `t`: one product of the queries widened by a column of ones with the
    keys widened by the bias. -/
def logits (q k : FVec F S2048x128 .f32) (b : FVec F S2048x8 .f32) (t : Fin 4) (h : Fin 8) : FVec F S512x2048 .f32 :=
  matmul dot_S512x17_S2048x17_S512x2048_1_1_0_0_n_n none
    (concatenate S512x17 1 [⟨S512x16, extractStridedSlice S512x16 ![512 * t.val, 16 * h.val] q (slRow t h)⟩, ⟨S512x1, ones⟩]
      concatenates_S512x16_S512x1_S512x17_d1)
    (concatenate S2048x17 1 [⟨S2048x16, extractStridedSlice S2048x16 ![0, 16 * h.val] k (slCol h)⟩,
        ⟨S2048x1, extractStridedSlice S2048x1 ![0, h.val] b (slBias h)⟩]
      concatenates_S2048x16_S2048x1_S2048x17_d1)
    (constant S512x2048 .f32 0x00000000#32)

/-- The exponentials of a tile's logits less their row's greatest. -/
def expo (x : FVec F S512x2048 .f32) : FVec F S512x2048 .f32 :=
  exp (subf x (broadcastTo S512x2048 (shapeCast S512x1
    (multiReduction .maximumf [1] S512 x 0xFF800000#32 reduces_S512x2048_S512 (.inl rfl) rfl) shapeCasts_S512_S512x1)
    broadcasts_S512x1_S512x2048))

/-- The softmax of each row of a tile. -/
def softmax (x : FVec F S512x2048 .f32) : FVec F S512x2048 .f32 :=
  divf (expo x) (broadcastTo S512x2048 (shapeCast S512x1
    (multiReduction .add [1] S512 (expo x) 0x00000000#32 reduces_S512x2048_S512 (.inl rfl) rfl) shapeCasts_S512_S512x1)
    broadcasts_S512x1_S512x2048)

/-- The attention inside the row's block. -/
def inner (ec : FVec F S2048x1 .f32) (er : FVec F S1x2048 .f32) (q k : FVec F S2048x128 .f32) (b : FVec F S2048x8 .f32)
    (t : Fin 4) (h : Fin 8) : FVec F S512x2048 .f32 :=
  softmax (select (mask ec er t) (logits q k b t h) neg)

/-- The attention outside the row's block. -/
def outer (ec : FVec F S2048x1 .f32) (er : FVec F S1x2048 .f32) (q k : FVec F S2048x128 .f32) (b : FVec F S2048x8 .f32)
    (t : Fin 4) (h : Fin 8) : FVec F S512x2048 .f32 :=
  softmax (select (mask ec er t) neg (logits q k b t h))

/-- The values head `h` gathers for the rows of tile `t`. -/
def head (ec : FVec F S2048x1 .f32) (er : FVec F S1x2048 .f32) (q k v : FVec F S2048x128 .f32) (b : FVec F S2048x8 .f32)
    (t : Fin 4) (h : Fin 8) : FVec F S512x16 .f32 :=
  matmul dot_S512x2048_S2048x16_S512x16_1_0_0_1_n_n none (addf (inner ec er q k b t h) (outer ec er q k b t h))
    (extractStridedSlice S2048x16 ![0, 16 * h.val] v (slCol h)) (constant S512x16 .f32 0x00000000#32)

/-- The eight heads of tile `t` side by side. -/
def tile (ec : FVec F S2048x1 .f32) (er : FVec F S1x2048 .f32) (q k v : FVec F S2048x128 .f32) (b : FVec F S2048x8 .f32)
    (t : Fin 4) : FVec F S512x128 .f32 :=
  concatenate S512x128 1 [⟨S512x16, head ec er q k v b t 0⟩, ⟨S512x16, head ec er q k v b t 1⟩, ⟨S512x16, head ec er q k v b t 2⟩,
    ⟨S512x16, head ec er q k v b t 3⟩, ⟨S512x16, head ec er q k v b t 4⟩, ⟨S512x16, head ec er q k v b t 5⟩,
    ⟨S512x16, head ec er q k v b t 6⟩, ⟨S512x16, head ec er q k v b t 7⟩]
    concatenates_S512x16_S512x16_S512x16_S512x16_S512x16_S512x16_S512x16_S512x16_S512x128_d1

/-- The attention of the whole layer: the four tiles, one under the other. -/
def attn (ec : FVec F S2048x1 .f32) (er : FVec F S1x2048 .f32) (q k v : FVec F S2048x128 .f32) (b : FVec F S2048x8 .f32) :
    FVec F S2048x128 .f32 :=
  concatenate S2048x128 0 [⟨S512x128, tile ec er q k v b 0⟩, ⟨S512x128, tile ec er q k v b 1⟩,
    ⟨S512x128, tile ec er q k v b 2⟩, ⟨S512x128, tile ec er q k v b 3⟩]
    concatenates_S512x128_S512x128_S512x128_S512x128_S2048x128_d0

/-- The inner attention of tile `t` summed over the eight heads, from zero. -/
def headSum (ec : FVec F S2048x1 .f32) (er : FVec F S1x2048 .f32) (q k : FVec F S2048x128 .f32) (b : FVec F S2048x8 .f32)
    (t : Fin 4) : FVec F S512x2048 .f32 :=
  addf (addf (addf (addf (addf (addf (addf (addf (broadcast S512x2048 (Scalar.ofBits .f32 0x00000000#32))
    (inner ec er q k b t 0)) (inner ec er q k b t 1)) (inner ec er q k b t 2)) (inner ec er q k b t 3))
    (inner ec er q k b t 4)) (inner ec er q k b t 5)) (inner ec er q k b t 6)) (inner ec er q k b t 7)

/-- The coordinates the rows of tile `t` attend to, averaged over the heads. -/
def shiftTile (ec : FVec F S2048x1 .f32) (er : FVec F S1x2048 .f32) (q k : FVec F S2048x128 .f32) (b : FVec F S2048x8 .f32)
    (c : FVec F S2048x8 .f32) (t : Fin 4) : FVec F S512x8 .f32 :=
  mulf (matmul dot_S512x2048_S2048x8_S512x8_1_0_0_1_n_n none (headSum ec er q k b t) c (constant S512x8 .f32 0x00000000#32))
    (broadcast S512x8 (Scalar.ofBits .f32 0x3E000000#32))

/-- The coordinates every row attends to, averaged over the heads. -/
def shift (ec : FVec F S2048x1 .f32) (er : FVec F S1x2048 .f32) (q k : FVec F S2048x128 .f32) (b : FVec F S2048x8 .f32)
    (c : FVec F S2048x8 .f32) : FVec F S2048x8 .f32 :=
  concatenate S2048x8 0 [⟨S512x8, shiftTile ec er q k b c 0⟩, ⟨S512x8, shiftTile ec er q k b c 1⟩,
    ⟨S512x8, shiftTile ec er q k b c 2⟩, ⟨S512x8, shiftTile ec er q k b c 3⟩]
    concatenates_S512x8_S512x8_S512x8_S512x8_S2048x8_d0

/-! ## A layer's other parts -/

/-- The mean of each row. -/
def mean (x : FVec F S2048x128 .f32) : FVec F S2048x1 .f32 :=
  divf (shapeCast S2048x1 (multiReduction .add [1] S2048 x 0x00000000#32 reduces_S2048x128_S2048 (.inl rfl) rfl)
    shapeCasts_S2048_S2048x1) (broadcast S2048x1 (Scalar.ofBits .f32 0x43000000#32))

/-- Each row less its mean. -/
def centred (x : FVec F S2048x128 .f32) : FVec F S2048x128 .f32 :=
  subf x (broadcastTo S2048x128 (mean x) broadcasts_S2048x1_S2048x128)

/-- The normalization of each row, with a scale and an offset for each column. -/
def norm (x : FVec F S2048x128 .f32) (s b : FVec F S1x128 .f32) : FVec F S2048x128 .f32 :=
  addf (mulf (divf (centred x) (broadcastTo S2048x128 (sqrt (addf (mean (mulf (centred x) (centred x)))
      (broadcast S2048x1 (Scalar.ofBits .f32 0x3727C5AC#32)))) broadcasts_S2048x1_S2048x128))
    (broadcastTo S2048x128 s broadcasts_S1x128_S2048x128)) (broadcastTo S2048x128 b broadcasts_S1x128_S2048x128)

/-- A projection of the features. -/
def proj (h : FVec F S2048x128 .f32) (w : FVec F S128x128 .f32) : FVec F S2048x128 .f32 :=
  matmul dot_S2048x128_S128x128_S2048x128_1_0_0_1_n_n none h w (constant S2048x128 .f32 0x00000000#32)

/-- The queries: a projection divided by the square root of the head's width. -/
def query (h : FVec F S2048x128 .f32) (w : FVec F S128x128 .f32) : FVec F S2048x128 .f32 :=
  mulf (proj h w) (broadcast S2048x128 (Scalar.divf (Scalar.ofBits .f32 0x3F800000#32) (Scalar.sqrt (Scalar.ofBits .f32 0x41800000#32))))

/-- The bias each key gives each head's logits. -/
def bias (r : FVec F S2048x64 .f32) (w : FVec F S64x8 .f32) (b : FVec F S1x8 .f32) : FVec F S2048x8 .f32 :=
  addf (matmul dot_S2048x64_S64x8_S2048x8_1_0_0_1_n_n none r w (constant S2048x8 .f32 0x00000000#32))
    (broadcastTo S2048x8 b broadcasts_S1x8_S2048x8)

/-- The gate of each row's coordinates. -/
def gate (h : FVec F S2048x128 .f32) (w : FVec F S1x128 .f32) : FVec F S2048x1 .f32 :=
  tanh (shapeCast S2048x1 (multiReduction .add [1] S2048 (mulf h (broadcastTo S2048x128 w broadcasts_S1x128_S2048x128))
    0x00000000#32 reduces_S2048x128_S2048 (.inl rfl) rfl) shapeCasts_S2048_S2048x1)

/-- The hidden units before their activation. -/
def hidden (h : FVec F S2048x128 .f32) (w : FVec F S128x512 .f32) (b : FVec F S1x512 .f32) : FVec F S2048x512 .f32 :=
  addf (matmul dot_S2048x128_S128x512_S2048x512_1_0_0_1_n_n none h w (constant S2048x512 .f32 0x00000000#32))
    (broadcastTo S2048x512 b broadcasts_S1x512_S2048x512)

/-- The features after the two-layer perceptron. -/
def ffn (f h : FVec F S2048x128 .f32) (w1 : FVec F S128x512 .f32) (b1 : FVec F S1x512 .f32) (w2 : FVec F S512x128 .f32)
    (b2 : FVec F S1x128 .f32) : FVec F S2048x128 .f32 :=
  addf (addf f (matmul dot_S2048x512_S512x128_S2048x128_1_0_0_1_n_n none
      (mulf (hidden h w1 b1) (logistic (hidden h w1 b1))) w2 (constant S2048x128 .f32 0x00000000#32)))
    (broadcastTo S2048x128 b2 broadcasts_S1x128_S2048x128)

/-! ## A layer -/

/-- One layer's weights. -/
structure Weights (F : FTy → Type) [FloatOps F] [Named F] where
  wq : FVec F S128x128 .f32
  wk : FVec F S128x128 .f32
  wv : FVec F S128x128 .f32
  wo : FVec F S128x128 .f32
  wr : FVec F S64x8 .f32
  br : FVec F S1x8 .f32
  wg : FVec F S1x128 .f32
  w1 : FVec F S128x512 .f32
  b1 : FVec F S1x512 .f32
  w2 : FVec F S512x128 .f32
  b2 : FVec F S1x128 .f32
  s1 : FVec F S1x128 .f32
  o1 : FVec F S1x128 .f32
  s2 : FVec F S1x128 .f32
  o2 : FVec F S1x128 .f32

/-- The features after a layer's attention. -/
def mid (ec : FVec F S2048x1 .f32) (er : FVec F S1x2048 .f32) (r : FVec F S2048x64 .f32) (w : Weights F)
    (f : FVec F S2048x128 .f32) : FVec F S2048x128 .f32 :=
  addf f (proj (attn ec er (query (norm f w.s1 w.o1) w.wq) (proj (norm f w.s1 w.o1) w.wk) (proj (norm f w.s1 w.o1) w.wv)
    (bias r w.wr w.br)) w.wo)

/-- The features after a layer. -/
def feat (ec : FVec F S2048x1 .f32) (er : FVec F S1x2048 .f32) (r : FVec F S2048x64 .f32) (w : Weights F)
    (f : FVec F S2048x128 .f32) : FVec F S2048x128 .f32 :=
  ffn (mid ec er r w f) (norm (mid ec er r w f) w.s2 w.o2) w.w1 w.b1 w.w2 w.b2

/-- The coordinates after a layer. -/
def coord (ec : FVec F S2048x1 .f32) (er : FVec F S1x2048 .f32) (r : FVec F S2048x64 .f32) (w : Weights F)
    (f : FVec F S2048x128 .f32) (c : FVec F S2048x8 .f32) : FVec F S2048x8 .f32 :=
  addf c (mulf (broadcastTo S2048x8 (gate (norm f w.s1 w.o1) w.wg) broadcasts_S2048x1_S2048x8)
    (shift ec er (query (norm f w.s1 w.o1) w.wq) (proj (norm f w.s1 w.o1) w.wk) (bias r w.wr w.br) c))

/-! ## The weights of a layer, cut from the stacked arrays -/

theorem slSq (l : Fin 2) : S2x128x128.Slices ![l.val, 0, 0] S1x128x128 := by revert l; decide
theorem slRb (l : Fin 2) : S2x64x8.Slices ![l.val, 0, 0] S1x64x8 := by revert l; decide
theorem slR8 (l : Fin 2) : S2x1x8.Slices ![l.val, 0, 0] S1x1x8 := by revert l; decide
theorem slR128 (l : Fin 2) : S2x1x128.Slices ![l.val, 0, 0] S1x1x128 := by revert l; decide
theorem slR512 (l : Fin 2) : S2x1x512.Slices ![l.val, 0, 0] S1x1x512 := by revert l; decide
theorem slW1 (l : Fin 2) : S2x128x512.Slices ![l.val, 0, 0] S1x128x512 := by revert l; decide
theorem slW2 (l : Fin 2) : S2x512x128.Slices ![l.val, 0, 0] S1x512x128 := by revert l; decide

/-- Layer `l`'s square weight. -/
def sq (l : Fin 2) (x : FVec F S2x128x128 .f32) : FVec F S128x128 .f32 :=
  shapeCast S128x128 (extractStridedSlice S1x128x128 ![l.val, 0, 0] x (slSq l)) shapeCasts_S1x128x128_S128x128

/-- Layer `l`'s row of 128. -/
def row (l : Fin 2) (x : FVec F S2x1x128 .f32) : FVec F S1x128 .f32 :=
  shapeCast S1x128 (extractStridedSlice S1x1x128 ![l.val, 0, 0] x (slR128 l)) shapeCasts_S1x1x128_S1x128

/-- Layer `l`'s weights, cut from the stacked arrays. -/
def weights (l : Fin 2) (wq wk wv wo : FVec F S2x128x128 .f32) (wr : FVec F S2x64x8 .f32) (br : FVec F S2x1x8 .f32)
    (wg : FVec F S2x1x128 .f32) (w1 : FVec F S2x128x512 .f32) (b1 : FVec F S2x1x512 .f32) (w2 : FVec F S2x512x128 .f32)
    (b2 s1 o1 s2 o2 : FVec F S2x1x128 .f32) : Weights F where
  wq := sq l wq
  wk := sq l wk
  wv := sq l wv
  wo := sq l wo
  wr := shapeCast S64x8 (extractStridedSlice S1x64x8 ![l.val, 0, 0] wr (slRb l)) shapeCasts_S1x64x8_S64x8
  br := shapeCast S1x8 (extractStridedSlice S1x1x8 ![l.val, 0, 0] br (slR8 l)) shapeCasts_S1x1x8_S1x8
  wg := row l wg
  w1 := shapeCast S128x512 (extractStridedSlice S1x128x512 ![l.val, 0, 0] w1 (slW1 l)) shapeCasts_S1x128x512_S128x512
  b1 := shapeCast S1x512 (extractStridedSlice S1x1x512 ![l.val, 0, 0] b1 (slR512 l)) shapeCasts_S1x1x512_S1x512
  w2 := shapeCast S512x128 (extractStridedSlice S1x512x128 ![l.val, 0, 0] w2 (slW2 l)) shapeCasts_S1x512x128_S512x128
  b2 := row l b2
  s1 := row l s1
  o1 := row l o1
  s2 := row l s2
  o2 := row l o2

end Cert.KernelIdeal.Net
-- ==== Proof.KBody.lean ====
/-
  What the kernel's body leaves in its two output blocks, as two layers of the short program of `KStruct.lean`.
-/
module

public import proofs.«01_k».proof.Proof.KStruct

@[expose] public section

noncomputable section

namespace Cert.KernelIdeal.Net

open Idealize.ShloMosaic Cert.KernelIdeal Cert.KernelIdeal.Gen

variable {F : FTy → Type} [FloatOps F] [Named F]

/-- The blocks the body reads. -/
structure Blocks (F : FTy → Type) [FloatOps F] [Named F] where
  x0 : Vec F S2048x1 .i32
  x1 : Vec F S2048x1 .i32
  x2 : Vec F S1x512 .f32
  x3 : Vec F S512x1 .f32
  x4 : Vec F S512x8 .f32
  x5 : Vec F S2048x128 .f32
  x6 : Vec F S2048x8 .f32
  x7 : Vec F S2x128x128 .f32
  x8 : Vec F S2x128x128 .f32
  x9 : Vec F S2x128x128 .f32
  x10 : Vec F S2x128x128 .f32
  x11 : Vec F S2x64x8 .f32
  x12 : Vec F S2x1x8 .f32
  x13 : Vec F S2x1x128 .f32
  x14 : Vec F S2x128x512 .f32
  x15 : Vec F S2x1x512 .f32
  x16 : Vec F S2x512x128 .f32
  x17 : Vec F S2x1x128 .f32
  x18 : Vec F S2x1x128 .f32
  x19 : Vec F S2x1x128 .f32
  x20 : Vec F S2x1x128 .f32
  x21 : Vec F S2x1x128 .f32

namespace Blocks

variable (b : Blocks F)

/-- The block of each row's source node, as a column. -/
def ec : FVec F S2048x1 .f32 := k0_pay2 (View.ld b.x0 r0_0) (View.ld b.x3 r0_1)
/-- The block of each row's source node, as a row. -/
def er : FVec F S1x2048 .f32 := k0_pay3 (View.ld b.x0 r0_0) (View.ld b.x2 r0_2)
/-- The radial basis of each row's length. -/
def rb : FVec F S2048x64 .f32 :=
  k0_pay7 (k0_pay4 (View.ld b.x0 r0_0) (View.ld b.x1 r0_0) (View.ld b.x4 r0_3)) k0_pay5
    (k0_pay6 (View.ld b.x0 r0_0) (View.ld b.x1 r0_0) (View.ld b.x4 r0_3))
/-- The features the body starts from. -/
def f0 : FVec F S2048x128 .f32 := View.ld b.x5 r0_11
/-- The coordinates the body starts from. -/
def c0 : FVec F S2048x8 .f32 := k0_pay16 (View.ld b.x6 r0_12)
/-- The weights of layer `l`. -/
def w (l : Fin 2) : Weights F :=
  weights l (View.ld b.x7 r0_4) (View.ld b.x8 r0_4) (View.ld b.x9 r0_4) (View.ld b.x10 r0_4) (View.ld b.x11 r0_5)
    (k0_pay8 (View.ld b.x12 r0_6)) (k0_pay9 (View.ld b.x13 r0_7)) (View.ld b.x14 r0_8) (k0_pay10 (View.ld b.x15 r0_9))
    (View.ld b.x16 r0_10) (k0_pay11 (View.ld b.x17 r0_7)) (k0_pay12 (View.ld b.x18 r0_7)) (k0_pay13 (View.ld b.x19 r0_7))
    (k0_pay14 (View.ld b.x20 r0_7)) (k0_pay15 (View.ld b.x21 r0_7))

/-- The features after the first layer. -/
def f1 : FVec F S2048x128 .f32 := feat b.ec b.er b.rb (b.w 0) b.f0
/-- The coordinates after the first layer. -/
def c1 : FVec F S2048x8 .f32 := coord b.ec b.er b.rb (b.w 0) b.f0 b.c0

/-- The first layer's features before its perceptron, as the body computes them. -/
theorem mid0 : k0_pay395 b.x0 b.x1 b.x2 b.x3 b.x4 b.x5 b.x6 b.x7 b.x8 b.x9 b.x10 b.x11 b.x12 b.x13 b.x14 b.x15 b.x16 b.x17 b.x18 b.x19 b.x20 b.x21 = mid b.ec b.er b.rb (b.w 0) b.f0 := by
  rfl

/-- The first layer's features, as the body computes them. -/
theorem feat0 : k0_pay397 b.x0 b.x1 b.x2 b.x3 b.x4 b.x5 b.x6 b.x7 b.x8 b.x9 b.x10 b.x11 b.x12 b.x13 b.x14 b.x15 b.x16 b.x17 b.x18 b.x19 b.x20 b.x21 = b.f1 := by
  unfold k0_pay397; rw [mid0]; rfl

/-- The first layer's coordinates, as the body computes them. -/
theorem coord0 : k0_pay396 b.x0 b.x1 b.x2 b.x3 b.x4 b.x5 b.x6 b.x7 b.x8 b.x9 b.x10 b.x11 b.x12 b.x13 b.x14 b.x15 b.x16 b.x17 b.x18 b.x19 b.x20 b.x21 = b.c1 := by
  rfl

/-- The mean of the second layer's features, as the body computes it. -/
theorem mean1 : k0_pay400 b.x0 b.x1 b.x2 b.x3 b.x4 b.x5 b.x6 b.x7 b.x8 b.x9 b.x10 b.x11 b.x12 b.x13 b.x14 b.x15 b.x16 b.x17 b.x18 b.x19 b.x20 b.x21 = mean b.f1 := by
  rw [← feat0]; rfl

/-- The second layer's queries, as the body computes them. -/
theorem query1 : k0_pay401 b.x0 b.x1 b.x2 b.x3 b.x4 b.x5 b.x6 b.x7 b.x8 b.x9 b.x10 b.x11 b.x12 b.x13 b.x14 b.x15 b.x16 b.x17 b.x18 b.x19 b.x20 b.x21 = query (norm b.f1 (b.w 1).s1 (b.w 1).o1) (b.w 1).wq := by
  unfold k0_pay401; rw [mean1, feat0]; rfl

/-- The second layer's keys, as the body computes them. -/
theorem key1 : k0_pay402 b.x0 b.x1 b.x2 b.x3 b.x4 b.x5 b.x6 b.x7 b.x8 b.x9 b.x10 b.x11 b.x12 b.x13 b.x14 b.x15 b.x16 b.x17 b.x18 b.x19 b.x20 b.x21 = proj (norm b.f1 (b.w 1).s1 (b.w 1).o1) (b.w 1).wk := by
  unfold k0_pay402; rw [mean1, feat0]; rfl

/-- The second layer's values, as the body computes them. -/
theorem value1 : k0_pay403 b.x0 b.x1 b.x2 b.x3 b.x4 b.x5 b.x6 b.x7 b.x8 b.x9 b.x10 b.x11 b.x12 b.x13 b.x14 b.x15 b.x16 b.x17 b.x18 b.x19 b.x20 b.x21 = proj (norm b.f1 (b.w 1).s1 (b.w 1).o1) (b.w 1).wv := by
  unfold k0_pay403; rw [mean1, feat0]; rfl

/-- The second layer's bias, as the body computes it. -/
theorem bias1 : k0_pay404 b.x0 b.x1 b.x2 b.x3 b.x4 b.x5 b.x6 b.x7 b.x8 b.x9 b.x10 b.x11 b.x12 b.x13 b.x14 b.x15 b.x16 b.x17 b.x18 b.x19 b.x20 b.x21 = bias b.rb (b.w 1).wr (b.w 1).br := by
  rfl

set_option maxHeartbeats 4000000 in
/-- The second layer's attention, as the body computes it. -/
theorem attn1 : k0_pay339 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay228 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay196 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21) (k0_pay406 b.x0 b.x1 b.x2 b.x3 b.x4 b.x5 b.x6 b.x7 b.x8 b.x9 b.x10 b.x11 b.x12 b.x13 b.x14 b.x15 b.x16 b.x17 b.x18 b.x19 b.x20 b.x21)) (k0_pay202 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay407 b.x0 b.x1 b.x2 b.x3 b.x4 b.x5 b.x6 b.x7 b.x8 b.x9 b.x10 b.x11 b.x12 b.x13 b.x14 b.x15 b.x16 b.x17 b.x18 b.x19 b.x20 b.x21) (k0_pay200 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21)) (k0_pay201 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21))) (k0_pay205 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21)) (k0_pay209 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21) (k0_pay408 b.x0 b.x1 b.x2 b.x3 b.x4 b.x5 b.x6 b.x7 b.x8 b.x9 b.x10 b.x11 b.x12 b.x13 b.x14 b.x15 b.x16 b.x17 b.x18 b.x19 b.x20 b.x21)) (k0_pay215 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay409 b.x0 b.x1 b.x2 b.x3 b.x4 b.x5 b.x6 b.x7 b.x8 b.x9 b.x10 b.x11 b.x12 b.x13 b.x14 b.x15 b.x16 b.x17 b.x18 b.x19 b.x20 b.x21) (k0_pay213 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21)) (k0_pay214 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21))) (k0_pay218 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21)) (k0_pay222 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21) (k0_pay410 b.x0 b.x1 b.x2 b.x3 b.x4 b.x5 b.x6 b.x7 b.x8 b.x9 b.x10 b.x11 b.x12 b.x13 b.x14 b.x15 b.x16 b.x17 b.x18 b.x19 b.x20 b.x21)) (k0_pay411 b.x0 b.x1 b.x2 b.x3 b.x4 b.x5 b.x6 b.x7 b.x8 b.x9 b.x10 b.x11 b.x12 b.x13 b.x14 b.x15 b.x16 b.x17 b.x18 b.x19 b.x20 b.x21) (k0_pay226 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21)) (k0_pay227 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21))) (k0_pay263 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21) (k0_pay235 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay413 b.x0 b.x1 b.x2 b.x3 b.x4 b.x5 b.x6 b.x7 b.x8 b.x9 b.x10 b.x11 b.x12 b.x13 b.x14 b.x15 b.x16 b.x17 b.x18 b.x19 b.x20 b.x21) (k0_pay234 (k0_pay346 b.x0 b.x1 b.x2 b.x3 b.x4 b.x5 b.x6 b.x7 b.x8 b.x9 b.x10 b.x11 b.x12 b.x13 b.x14 b.x15 b.x16 b.x17 b.x18 b.x19 b.x20 b.x21) (k0_pay347 b.x0 b.x1 b.x2 b.x3 b.x4 b.x5 b.x6 b.x7 b.x8 b.x9 b.x10 b.x11 b.x12 b.x13 b.x14 b.x15 b.x16 b.x17 b.x18 b.x19 b.x20 b.x21) (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21))) (k0_pay238 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21)) (k0_pay243 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21) (k0_pay240 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21)) (k0_pay414 b.x0 b.x1 b.x2 b.x3 b.x4 b.x5 b.x6 b.x7 b.x8 b.x9 b.x10 b.x11 b.x12 b.x13 b.x14 b.x15 b.x16 b.x17 b.x18 b.x19 b.x20 b.x21)) (k0_pay248 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay415 b.x0 b.x1 b.x2 b.x3 b.x4 b.x5 b.x6 b.x7 b.x8 b.x9 b.x10 b.x11 b.x12 b.x13 b.x14 b.x15 b.x16 b.x17 b.x18 b.x19 b.x20 b.x21) (k0_pay247 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21))) (k0_pay251 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21)) (k0_pay256 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21) (k0_pay253 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21)) (k0_pay416 b.x0 b.x1 b.x2 b.x3 b.x4 b.x5 b.x6 b.x7 b.x8 b.x9 b.x10 b.x11 b.x12 b.x13 b.x14 b.x15 b.x16 b.x17 b.x18 b.x19 b.x20 b.x21)) (k0_pay417 b.x0 b.x1 b.x2 b.x3 b.x4 b.x5 b.x6 b.x7 b.x8 b.x9 b.x10 b.x11 b.x12 b.x13 b.x14 b.x15 b.x16 b.x17 b.x18 b.x19 b.x20 b.x21) (k0_pay260 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21))) (k0_pay304 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay271 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay419 b.x0 b.x1 b.x2 b.x3 b.x4 b.x5 b.x6 b.x7 b.x8 b.x9 b.x10 b.x11 b.x12 b.x13 b.x14 b.x15 b.x16 b.x17 b.x18 b.x19 b.x20 b.x21) (k0_pay420 b.x0 b.x1 b.x2 b.x3 b.x4 b.x5 b.x6 b.x7 b.x8 b.x9 b.x10 b.x11 b.x12 b.x13 b.x14 b.x15 b.x16 b.x17 b.x18 b.x19 b.x20 b.x21)) (k0_pay276 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay273 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21)) (k0_pay421 b.x0 b.x1 b.x2 b.x3 b.x4 b.x5 b.x6 b.x7 b.x8 b.x9 b.x10 b.x11 b.x12 b.x13 b.x14 b.x15 b.x16 b.x17 b.x18 b.x19 b.x20 b.x21) (k0_pay275)) (k0_pay279 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21)) (k0_pay285 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay422 b.x0 b.x1 b.x2 b.x3 b.x4 b.x5 b.x6 b.x7 b.x8 b.x9 b.x10 b.x11 b.x12 b.x13 b.x14 b.x15 b.x16 b.x17 b.x18 b.x19 b.x20 b.x21) (k0_pay423 b.x0 b.x1 b.x2 b.x3 b.x4 b.x5 b.x6 b.x7 b.x8 b.x9 b.x10 b.x11 b.x12 b.x13 b.x14 b.x15 b.x16 b.x17 b.x18 b.x19 b.x20 b.x21)) (k0_pay290 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay287 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21)) (k0_pay424 b.x0 b.x1 b.x2 b.x3 b.x4 b.x5 b.x6 b.x7 b.x8 b.x9 b.x10 b.x11 b.x12 b.x13 b.x14 b.x15 b.x16 b.x17 b.x18 b.x19 b.x20 b.x21) (k0_pay289)) (k0_pay293 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21)) (k0_pay299 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay425 b.x0 b.x1 b.x2 b.x3 b.x4 b.x5 b.x6 b.x7 b.x8 b.x9 b.x10 b.x11 b.x12 b.x13 b.x14 b.x15 b.x16 b.x17 b.x18 b.x19 b.x20 b.x21) (k0_pay426 b.x0 b.x1 b.x2 b.x3 b.x4 b.x5 b.x6 b.x7 b.x8 b.x9 b.x10 b.x11 b.x12 b.x13 b.x14 b.x15 b.x16 b.x17 b.x18 b.x19 b.x20 b.x21)) (k0_pay301 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21)) (k0_pay427 b.x0 b.x1 b.x2 b.x3 b.x4 b.x5 b.x6 b.x7 b.x8 b.x9 b.x10 b.x11 b.x12 b.x13 b.x14 b.x15 b.x16 b.x17 b.x18 b.x19 b.x20 b.x21) (k0_pay303)) (k0_pay428 b.x0 b.x1 b.x2 b.x3 b.x4 b.x5 b.x6 b.x7 b.x8 b.x9 b.x10 b.x11 b.x12 b.x13 b.x14 b.x15 b.x16 b.x17 b.x18 b.x19 b.x20 b.x21) (k0_pay311 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay429 b.x0 b.x1 b.x2 b.x3 b.x4 b.x5 b.x6 b.x7 b.x8 b.x9 b.x10 b.x11 b.x12 b.x13 b.x14 b.x15 b.x16 b.x17 b.x18 b.x19 b.x20 b.x21) (k0_pay310 (k0_pay346 b.x0 b.x1 b.x2 b.x3 b.x4 b.x5 b.x6 b.x7 b.x8 b.x9 b.x10 b.x11 b.x12 b.x13 b.x14 b.x15 b.x16 b.x17 b.x18 b.x19 b.x20 b.x21) (k0_pay347 b.x0 b.x1 b.x2 b.x3 b.x4 b.x5 b.x6 b.x7 b.x8 b.x9 b.x10 b.x11 b.x12 b.x13 b.x14 b.x15 b.x16 b.x17 b.x18 b.x19 b.x20 b.x21) (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21))) (k0_pay314 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21)) (k0_pay319 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21) (k0_pay316 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21)) (k0_pay430 b.x0 b.x1 b.x2 b.x3 b.x4 b.x5 b.x6 b.x7 b.x8 b.x9 b.x10 b.x11 b.x12 b.x13 b.x14 b.x15 b.x16 b.x17 b.x18 b.x19 b.x20 b.x21)) (k0_pay324 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay431 b.x0 b.x1 b.x2 b.x3 b.x4 b.x5 b.x6 b.x7 b.x8 b.x9 b.x10 b.x11 b.x12 b.x13 b.x14 b.x15 b.x16 b.x17 b.x18 b.x19 b.x20 b.x21) (k0_pay323 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21))) (k0_pay327 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21)) (k0_pay332 (k0_pay403 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21) (k0_pay329 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21)) (k0_pay432 b.x0 b.x1 b.x2 b.x3 b.x4 b.x5 b.x6 b.x7 b.x8 b.x9 b.x10 b.x11 b.x12 b.x13 b.x14 b.x15 b.x16 b.x17 b.x18 b.x19 b.x20 b.x21)) (k0_pay433 b.x0 b.x1 b.x2 b.x3 b.x4 b.x5 b.x6 b.x7 b.x8 b.x9 b.x10 b.x11 b.x12 b.x13 b.x14 b.x15 b.x16 b.x17 b.x18 b.x19 b.x20 b.x21) (k0_pay336 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21)) =
    attn b.ec b.er (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay403 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) := by
  rfl

set_option maxHeartbeats 4000000 in
/-- The second layer's attended coordinates, as the body computes them. -/
theorem shift1 : k0_pay340 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay396 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay229 (k0_pay396 b.x0 b.x1 b.x2 b.x3 b.x4 b.x5 b.x6 b.x7 b.x8 b.x9 b.x10 b.x11 b.x12 b.x13 b.x14 b.x15 b.x16 b.x17 b.x18 b.x19 b.x20 b.x21) (k0_pay223 (k0_pay405 b.x0 b.x1 b.x2 b.x3 b.x4 b.x5 b.x6 b.x7 b.x8 b.x9 b.x10 b.x11 b.x12 b.x13 b.x14 b.x15 b.x16 b.x17 b.x18 b.x19 b.x20 b.x21) (k0_pay219 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21) (k0_pay210 (k0_pay405 b.x0 b.x1 b.x2 b.x3 b.x4 b.x5 b.x6 b.x7 b.x8 b.x9 b.x10 b.x11 b.x12 b.x13 b.x14 b.x15 b.x16 b.x17 b.x18 b.x19 b.x20 b.x21) (k0_pay206 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay405 b.x0 b.x1 b.x2 b.x3 b.x4 b.x5 b.x6 b.x7 b.x8 b.x9 b.x10 b.x11 b.x12 b.x13 b.x14 b.x15 b.x16 b.x17 b.x18 b.x19 b.x20 b.x21) (k0_pay197 (k0_pay405 b.x0 b.x1 b.x2 b.x3 b.x4 b.x5 b.x6 b.x7 b.x8 b.x9 b.x10 b.x11 b.x12 b.x13 b.x14 b.x15 b.x16 b.x17 b.x18 b.x19 b.x20 b.x21) (k0_pay193) (k0_pay406 b.x0 b.x1 b.x2 b.x3 b.x4 b.x5 b.x6 b.x7 b.x8 b.x9 b.x10 b.x11 b.x12 b.x13 b.x14 b.x15 b.x16 b.x17 b.x18 b.x19 b.x20 b.x21)) (k0_pay407 b.x0 b.x1 b.x2 b.x3 b.x4 b.x5 b.x6 b.x7 b.x8 b.x9 b.x10 b.x11 b.x12 b.x13 b.x14 b.x15 b.x16 b.x17 b.x18 b.x19 b.x20 b.x21)) (k0_pay408 b.x0 b.x1 b.x2 b.x3 b.x4 b.x5 b.x6 b.x7 b.x8 b.x9 b.x10 b.x11 b.x12 b.x13 b.x14 b.x15 b.x16 b.x17 b.x18 b.x19 b.x20 b.x21)) (k0_pay409 b.x0 b.x1 b.x2 b.x3 b.x4 b.x5 b.x6 b.x7 b.x8 b.x9 b.x10 b.x11 b.x12 b.x13 b.x14 b.x15 b.x16 b.x17 b.x18 b.x19 b.x20 b.x21)) (k0_pay410 b.x0 b.x1 b.x2 b.x3 b.x4 b.x5 b.x6 b.x7 b.x8 b.x9 b.x10 b.x11 b.x12 b.x13 b.x14 b.x15 b.x16 b.x17 b.x18 b.x19 b.x20 b.x21)) (k0_pay411 b.x0 b.x1 b.x2 b.x3 b.x4 b.x5 b.x6 b.x7 b.x8 b.x9 b.x10 b.x11 b.x12 b.x13 b.x14 b.x15 b.x16 b.x17 b.x18 b.x19 b.x20 b.x21)) (k0_pay264 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay396 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21) (k0_pay257 (k0_pay252 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21) (k0_pay244 (k0_pay239 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay412 b.x0 b.x1 b.x2 b.x3 b.x4 b.x5 b.x6 b.x7 b.x8 b.x9 b.x10 b.x11 b.x12 b.x13 b.x14 b.x15 b.x16 b.x17 b.x18 b.x19 b.x20 b.x21) (k0_pay231) (k0_pay413 b.x0 b.x1 b.x2 b.x3 b.x4 b.x5 b.x6 b.x7 b.x8 b.x9 b.x10 b.x11 b.x12 b.x13 b.x14 b.x15 b.x16 b.x17 b.x18 b.x19 b.x20 b.x21)) (k0_pay414 b.x0 b.x1 b.x2 b.x3 b.x4 b.x5 b.x6 b.x7 b.x8 b.x9 b.x10 b.x11 b.x12 b.x13 b.x14 b.x15 b.x16 b.x17 b.x18 b.x19 b.x20 b.x21)) (k0_pay415 b.x0 b.x1 b.x2 b.x3 b.x4 b.x5 b.x6 b.x7 b.x8 b.x9 b.x10 b.x11 b.x12 b.x13 b.x14 b.x15 b.x16 b.x17 b.x18 b.x19 b.x20 b.x21)) (k0_pay416 b.x0 b.x1 b.x2 b.x3 b.x4 b.x5 b.x6 b.x7 b.x8 b.x9 b.x10 b.x11 b.x12 b.x13 b.x14 b.x15 b.x16 b.x17 b.x18 b.x19 b.x20 b.x21)) (k0_pay417 b.x0 b.x1 b.x2 b.x3 b.x4 b.x5 b.x6 b.x7 b.x8 b.x9 b.x10 b.x11 b.x12 b.x13 b.x14 b.x15 b.x16 b.x17 b.x18 b.x19 b.x20 b.x21)) (k0_pay305 (k0_pay396 b.x0 b.x1 b.x2 b.x3 b.x4 b.x5 b.x6 b.x7 b.x8 b.x9 b.x10 b.x11 b.x12 b.x13 b.x14 b.x15 b.x16 b.x17 b.x18 b.x19 b.x20 b.x21) (k0_pay300 (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay294 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay286 (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay280 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay272 (k0_pay404 b.x0 b.x1 b.x2 b.x3 b.x4 b.x5 b.x6 b.x7 b.x8 b.x9 b.x10 b.x11 b.x12 b.x13 b.x14 b.x15 b.x16 b.x17 b.x18 b.x19 b.x20 b.x21) (k0_pay418 b.x0 b.x1 b.x2 b.x3 b.x4 b.x5 b.x6 b.x7 b.x8 b.x9 b.x10 b.x11 b.x12 b.x13 b.x14 b.x15 b.x16 b.x17 b.x18 b.x19 b.x20 b.x21) (k0_pay266) (k0_pay419 b.x0 b.x1 b.x2 b.x3 b.x4 b.x5 b.x6 b.x7 b.x8 b.x9 b.x10 b.x11 b.x12 b.x13 b.x14 b.x15 b.x16 b.x17 b.x18 b.x19 b.x20 b.x21) (k0_pay420 b.x0 b.x1 b.x2 b.x3 b.x4 b.x5 b.x6 b.x7 b.x8 b.x9 b.x10 b.x11 b.x12 b.x13 b.x14 b.x15 b.x16 b.x17 b.x18 b.x19 b.x20 b.x21)) (k0_pay421 b.x0 b.x1 b.x2 b.x3 b.x4 b.x5 b.x6 b.x7 b.x8 b.x9 b.x10 b.x11 b.x12 b.x13 b.x14 b.x15 b.x16 b.x17 b.x18 b.x19 b.x20 b.x21)) (k0_pay422 b.x0 b.x1 b.x2 b.x3 b.x4 b.x5 b.x6 b.x7 b.x8 b.x9 b.x10 b.x11 b.x12 b.x13 b.x14 b.x15 b.x16 b.x17 b.x18 b.x19 b.x20 b.x21) (k0_pay423 b.x0 b.x1 b.x2 b.x3 b.x4 b.x5 b.x6 b.x7 b.x8 b.x9 b.x10 b.x11 b.x12 b.x13 b.x14 b.x15 b.x16 b.x17 b.x18 b.x19 b.x20 b.x21)) (k0_pay424 b.x0 b.x1 b.x2 b.x3 b.x4 b.x5 b.x6 b.x7 b.x8 b.x9 b.x10 b.x11 b.x12 b.x13 b.x14 b.x15 b.x16 b.x17 b.x18 b.x19 b.x20 b.x21)) (k0_pay425 b.x0 b.x1 b.x2 b.x3 b.x4 b.x5 b.x6 b.x7 b.x8 b.x9 b.x10 b.x11 b.x12 b.x13 b.x14 b.x15 b.x16 b.x17 b.x18 b.x19 b.x20 b.x21) (k0_pay426 b.x0 b.x1 b.x2 b.x3 b.x4 b.x5 b.x6 b.x7 b.x8 b.x9 b.x10 b.x11 b.x12 b.x13 b.x14 b.x15 b.x16 b.x17 b.x18 b.x19 b.x20 b.x21)) (k0_pay427 b.x0 b.x1 b.x2 b.x3 b.x4 b.x5 b.x6 b.x7 b.x8 b.x9 b.x10 b.x11 b.x12 b.x13 b.x14 b.x15 b.x16 b.x17 b.x18 b.x19 b.x20 b.x21)) (k0_pay428 b.x0 b.x1 b.x2 b.x3 b.x4 b.x5 b.x6 b.x7 b.x8 b.x9 b.x10 b.x11 b.x12 b.x13 b.x14 b.x15 b.x16 b.x17 b.x18 b.x19 b.x20 b.x21) (k0_pay333 (k0_pay328 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21) (k0_pay320 (k0_pay315 (k0_pay356 b.x0 b.x1 b.x2 b.x3 b.x4 b.x5 b.x6 b.x7 b.x8 b.x9 b.x10 b.x11 b.x12 b.x13 b.x14 b.x15 b.x16 b.x17 b.x18 b.x19 b.x20 b.x21) (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay428 b.x0 b.x1 b.x2 b.x3 b.x4 b.x5 b.x6 b.x7 b.x8 b.x9 b.x10 b.x11 b.x12 b.x13 b.x14 b.x15 b.x16 b.x17 b.x18 b.x19 b.x20 b.x21) (k0_pay307) (k0_pay429 b.x0 b.x1 b.x2 b.x3 b.x4 b.x5 b.x6 b.x7 b.x8 b.x9 b.x10 b.x11 b.x12 b.x13 b.x14 b.x15 b.x16 b.x17 b.x18 b.x19 b.x20 b.x21)) (k0_pay430 b.x0 b.x1 b.x2 b.x3 b.x4 b.x5 b.x6 b.x7 b.x8 b.x9 b.x10 b.x11 b.x12 b.x13 b.x14 b.x15 b.x16 b.x17 b.x18 b.x19 b.x20 b.x21)) (k0_pay431 b.x0 b.x1 b.x2 b.x3 b.x4 b.x5 b.x6 b.x7 b.x8 b.x9 b.x10 b.x11 b.x12 b.x13 b.x14 b.x15 b.x16 b.x17 b.x18 b.x19 b.x20 b.x21)) (k0_pay432 b.x0 b.x1 b.x2 b.x3 b.x4 b.x5 b.x6 b.x7 b.x8 b.x9 b.x10 b.x11 b.x12 b.x13 b.x14 b.x15 b.x16 b.x17 b.x18 b.x19 b.x20 b.x21)) (k0_pay433 b.x0 b.x1 b.x2 b.x3 b.x4 b.x5 b.x6 b.x7 b.x8 b.x9 b.x10 b.x11 b.x12 b.x13 b.x14 b.x15 b.x16 b.x17 b.x18 b.x19 b.x20 b.x21) =
    shift b.ec b.er (k0_pay401 b.x0 b.x1 b.x2 b.x3 b.x4 b.x5 b.x6 b.x7 b.x8 b.x9 b.x10 b.x11 b.x12 b.x13 b.x14 b.x15 b.x16 b.x17 b.x18 b.x19 b.x20 b.x21) (k0_pay402 b.x0 b.x1 b.x2 b.x3 b.x4 b.x5 b.x6 b.x7 b.x8 b.x9 b.x10 b.x11 b.x12 b.x13 b.x14 b.x15 b.x16 b.x17 b.x18 b.x19 b.x20 b.x21) (k0_pay404 b.x0 b.x1 b.x2 b.x3 b.x4 b.x5 b.x6 b.x7 b.x8 b.x9 b.x10 b.x11 b.x12 b.x13 b.x14 b.x15 b.x16 b.x17 b.x18 b.x19 b.x20 b.x21) (k0_pay396 b.x0 b.x1 b.x2 b.x3 b.x4 b.x5 b.x6 b.x7 b.x8 b.x9 b.x10 b.x11 b.x12 b.x13 b.x14 b.x15 b.x16 b.x17 b.x18 b.x19 b.x20 b.x21) := by
  rfl

/-- The features the body leaves: the second layer's. -/
theorem out_feat : out0_22 b.x0 b.x1 b.x2 b.x3 b.x4 b.x5 b.x6 b.x7 b.x8 b.x9 b.x10 b.x11 b.x12 b.x13 b.x14 b.x15 b.x16 b.x17 b.x18 b.x19 b.x20 b.x21 = View.canon [⟨r0_11, feat b.ec b.er b.rb (b.w 1) b.f1⟩] := by
  unfold out0_22
  rw [attn1, query1, key1, value1, bias1, feat0]
  rfl

/-- The coordinates the body leaves: the second layer's. -/
theorem out_coord : out0_23 b.x0 b.x1 b.x2 b.x3 b.x4 b.x5 b.x6 b.x7 b.x8 b.x9 b.x10 b.x11 b.x12 b.x13 b.x14 b.x15 b.x16 b.x17 b.x18 b.x19 b.x20 b.x21 = View.canon [⟨r0_12, coord b.ec b.er b.rb (b.w 1) b.f1 b.c1⟩] := by
  unfold out0_23
  rw [shift1, query1, key1, bias1, mean1, coord0, feat0]
  rfl

end Blocks

end Cert.KernelIdeal.Net
-- ==== Proof.RStruct.lean ====
/-
  The reference written as a short program over whole arrays: one layer of the network as a function of the features,
  the coordinates and that layer's weights. Stated for any float type; `RBody.lean` names the reference's results by it.
-/
module

public import proofs.«01_k».proof.Proof.Gen.ReferenceIdeal.Read

@[expose] public section

noncomputable section

namespace Cert.ReferenceIdeal.Net

open Idealize.ShloMosaic Cert.ReferenceIdeal Cert.ReferenceIdeal.Gen

variable {F : FTy → Type} [FloatOps F]

/-- The scalar a bit pattern writes. -/
abbrev lit (b : BitVec 32) : FVec F S_ .f32 := constant S_ .f32 b

/-! ## Normalization -/

/-- The sum of each row. -/
def rowSum (x : FVec F S2048x128 .f32) : FVec F S2048x1 .f32 :=
  broadcastInDim S2048x1 ![0] bcast_S2048_S2048x1_0 (Host.reduceAdd x (lit 0x00000000#32) reducesTo_S2048x128_S2048_d1 h_S_)

/-- The mean of each row. -/
def mean (x : FVec F S2048x128 .f32) : FVec F S2048x1 .f32 :=
  Host.divf (rowSum x) (broadcastInDim S2048x1 ![] bcast_S_S2048x1 (lit 0x43000000#32))

/-- Each row less its mean. -/
def centred (x : FVec F S2048x128 .f32) : FVec F S2048x128 .f32 :=
  subf x (broadcastInDim S2048x128 ![0, 1] bcast_S2048x1_S2048x128_0_1 (mean x))

/-- The number of columns the variance divides by: 128 less zero degrees of freedom. -/
def count : FVec F S_ .f32 := subf (lit 0x43000000#32) (sitofp .f32 (constantI S_ 32 0#32))

/-- The variance of each row, where the count is positive. -/
def variance (x : FVec F S2048x128 .f32) : FVec F S2048x1 .f32 :=
  select (broadcastInDim S2048x1 ![] bcast_S_S2048x1 (cmpf .ogt (count (F := F)) (lit 0x00000000#32)))
    (Host.divf (rowSum (mulf (centred x) (centred x))) (broadcastInDim S2048x1 ![] bcast_S_S2048x1 (count (F := F))))
    (broadcastInDim S2048x1 ![] bcast_S_S2048x1 (lit 0x7FC00000#32))

/-- A row of 128 spread over all the rows. -/
def spread (s : FVec F S128 .f32) : FVec F S2048x128 .f32 :=
  broadcastInDim S2048x128 ![0, 1] bcast_S1x128_S2048x128_0_1 (broadcastInDim S1x128 ![1] bcast_S128_S1x128_1 s)

/-- The normalization of each row, with a scale and an offset for each column. -/
def norm (x : FVec F S2048x128 .f32) (s b : FVec F S128 .f32) : FVec F S2048x128 .f32 :=
  addf (mulf (Host.divf (centred x) (broadcastInDim S2048x128 ![0, 1] bcast_S2048x1_S2048x128_0_1
      (Host.sqrt (addf (variance x) (broadcastInDim S2048x1 ![] bcast_S_S2048x1 (lit 0x3727C5AC#32))))))
    (spread s)) (spread b)

/-! ## Attention -/

/-- A projection of the features. -/
def proj (h : FVec F S2048x128 .f32) (w : FVec F S128x128 .f32) : FVec F S2048x128 .f32 :=
  Host.dotGeneral dot_S2048x128_S128x128_S2048x128_1_0_0_1_n_n none h w

/-- The eight heads of a projection. -/
def heads (x : FVec F S2048x128 .f32) : FVec F S8x2048x16 .f32 :=
  transpose S8x2048x16 [1, 0, 2] (shapeCast S2048x8x16 x shapeCasts_S2048x128_S2048x8x16) transposes_S2048x8x16_S8x2048x16_1_0_2

/-- The bias each key gives each head's logits. -/
def bias (r : FVec F S2048x64 .f32) (w : FVec F S64x8 .f32) (b : FVec F S8 .f32) : FVec F S2048x8 .f32 :=
  addf (Host.dotGeneral dot_S2048x64_S64x8_S2048x8_1_0_0_1_n_n none r w)
    (broadcastInDim S2048x8 ![0, 1] bcast_S1x8_S2048x8_0_1 (broadcastInDim S1x8 ![1] bcast_S8_S1x8_1 b))

/-- The logits of every head. -/
def logits (q k : FVec F S2048x128 .f32) (b : FVec F S2048x8 .f32) : FVec F S8x2048x2048 .f32 :=
  addf (Host.divf (Host.dotGeneral dot_S8x2048x16_S8x2048x16_S8x2048x2048_2_2_1_1_0_0 none (heads q) (heads k))
      (broadcastInDim S8x2048x2048 ![] bcast_S_S8x2048x2048 (Host.sqrt (lit 0x41800000#32))))
    (broadcastInDim S8x2048x2048 ![0, 1, 2] bcast_S8x1x2048_S8x2048x2048_0_1_2
      (broadcastInDim S8x1x2048 ![0, 2] bcast_S8x2048_S8x1x2048_0_2 (transpose S8x2048 [1, 0] b transposes_S2048x8_S8x2048_1_0)))

/-- The logits where a mask holds, and the value standing for minus infinity elsewhere. -/
def masked (m : IVec S2048x2048 1) (x : FVec F S8x2048x2048 .f32) : FVec F S8x2048x2048 .f32 :=
  select (broadcastInDim S8x2048x2048 ![0, 1, 2] bcast_S1x2048x2048_S8x2048x2048_0_1_2
      (broadcastInDim S1x2048x2048 ![1, 2] bcast_S2048x2048_S1x2048x2048_1_2 m)) x
    (broadcastInDim S8x2048x2048 ![] bcast_S_S8x2048x2048 (lit 0xCE6E6B28#32))

/-- A value for each row of each head, spread over the columns. -/
def spreadRow (x : FVec F S8x2048 .f32) : FVec F S8x2048x2048 .f32 :=
  broadcastInDim S8x2048x2048 ![0, 1, 2] bcast_S8x2048x1_S8x2048x2048_0_1_2
    (broadcastInDim S8x2048x1 ![0, 1] bcast_S8x2048_S8x2048x1_0_1 x)

/-- The exponentials of the logits less their row's greatest. -/
def expo (x : FVec F S8x2048x2048 .f32) : FVec F S8x2048x2048 .f32 :=
  Host.exp (subf x (spreadRow (maximumf (broadcastInDim S8x2048 ![] bcast_S_S8x2048 (lit 0xFF800000#32))
    (Host.reduce FloatOps.maximumf x (lit 0xFF800000#32) reducesTo_S8x2048x2048_S8x2048_d2 h_S_))))

/-- The softmax of each row of each head. -/
def softmax (x : FVec F S8x2048x2048 .f32) : FVec F S8x2048x2048 .f32 :=
  Host.divf (expo x) (spreadRow (Host.reduceAdd (expo x) (lit 0x00000000#32) reducesTo_S8x2048x2048_S8x2048_d2 h_S_))

/-- The values an attention gathers, for every head. -/
def gathered (a : FVec F S8x2048x2048 .f32) (v : FVec F S2048x128 .f32) : FVec F S8x2048x16 .f32 :=
  Host.dotGeneral dot_S8x2048x2048_S8x2048x16_S8x2048x16_2_1_1_2_0_0 none a (heads v)

/-- The attention of the whole layer. -/
def attn (m : IVec S2048x2048 1) (q k v : FVec F S2048x128 .f32) (b : FVec F S2048x8 .f32) : FVec F S2048x128 .f32 :=
  shapeCast S2048x128 (transpose S2048x8x16 [1, 0, 2]
    (addf (gathered (softmax (masked m (logits q k b))) v) (gathered (softmax (masked (noti m) (logits q k b))) v))
    transposes_S8x2048x16_S2048x8x16_1_0_2) shapeCasts_S2048x8x16_S2048x128

/-- The coordinates every row attends to, averaged over the heads. -/
def shift (m : IVec S2048x2048 1) (q k : FVec F S2048x128 .f32) (b : FVec F S2048x8 .f32) (c : FVec F S2048x3 .f32) :
    FVec F S2048x3 .f32 :=
  Host.dotGeneral dot_S2048x2048_S2048x3_S2048x3_1_0_0_1_n_n none
    (Host.divf (Host.reduceAdd (softmax (masked m (logits q k b))) (lit 0x00000000#32) reducesTo_S8x2048x2048_S2048x2048_d0 h_S_)
      (broadcastInDim S2048x2048 ![] bcast_S_S2048x2048 (lit 0x41000000#32))) c

/-! ## Gate and perceptron -/

/-- The gate of each row's coordinates. -/
def gate (h : FVec F S2048x128 .f32) (w : FVec F S128x1 .f32) : FVec F S2048x1 .f32 :=
  Host.tanh (Host.dotGeneral dot_S2048x128_S128x1_S2048x1_1_0_0_1_n_n none h w)

/-- The hidden units before their activation. -/
def hidden (h : FVec F S2048x128 .f32) (w : FVec F S128x512 .f32) (b : FVec F S512 .f32) : FVec F S2048x512 .f32 :=
  addf (Host.dotGeneral dot_S2048x128_S128x512_S2048x512_1_0_0_1_n_n none h w)
    (broadcastInDim S2048x512 ![0, 1] bcast_S1x512_S2048x512_0_1 (broadcastInDim S1x512 ![1] bcast_S512_S1x512_1 b))

/-- The hidden units' activation. -/
def active (u : FVec F S2048x512 .f32) : FVec F S2048x512 .f32 :=
  mulf u (Host.divf (broadcastInDim S2048x512 ![] bcast_S_S2048x512 (lit 0x3F800000#32))
    (addf (broadcastInDim S2048x512 ![] bcast_S_S2048x512 (lit 0x3F800000#32)) (Host.exp (Host.negf u))))

/-- The features after the two-layer perceptron. -/
def ffn (f h : FVec F S2048x128 .f32) (w1 : FVec F S128x512 .f32) (b1 : FVec F S512 .f32) (w2 : FVec F S512x128 .f32)
    (b2 : FVec F S128 .f32) : FVec F S2048x128 .f32 :=
  addf f (addf (Host.dotGeneral dot_S2048x512_S512x128_S2048x128_1_0_0_1_n_n none (active (hidden h w1 b1)) w2) (spread b2))

/-! ## A layer -/

/-- One layer's weights. -/
structure Weights (F : FTy → Type) [FloatOps F] where
  wq : FVec F S128x128 .f32
  wk : FVec F S128x128 .f32
  wv : FVec F S128x128 .f32
  wo : FVec F S128x128 .f32
  wr : FVec F S64x8 .f32
  br : FVec F S8 .f32
  wg : FVec F S128x1 .f32
  w1 : FVec F S128x512 .f32
  b1 : FVec F S512 .f32
  w2 : FVec F S512x128 .f32
  b2 : FVec F S128 .f32
  s1 : FVec F S128 .f32
  o1 : FVec F S128 .f32
  s2 : FVec F S128 .f32
  o2 : FVec F S128 .f32

/-- The features after a layer's attention. -/
def mid (m : IVec S2048x2048 1) (r : FVec F S2048x64 .f32) (w : Weights F) (f : FVec F S2048x128 .f32) : FVec F S2048x128 .f32 :=
  addf f (proj (attn m (proj (norm f w.s1 w.o1) w.wq) (proj (norm f w.s1 w.o1) w.wk) (proj (norm f w.s1 w.o1) w.wv)
    (bias r w.wr w.br)) w.wo)

/-- The features after a layer. -/
def feat (m : IVec S2048x2048 1) (r : FVec F S2048x64 .f32) (w : Weights F) (f : FVec F S2048x128 .f32) : FVec F S2048x128 .f32 :=
  ffn (mid m r w f) (norm (mid m r w f) w.s2 w.o2) w.w1 w.b1 w.w2 w.b2

/-- The coordinates after a layer. -/
def coord (m : IVec S2048x2048 1) (r : FVec F S2048x64 .f32) (w : Weights F) (f : FVec F S2048x128 .f32)
    (c : FVec F S2048x3 .f32) : FVec F S2048x3 .f32 :=
  addf c (mulf (broadcastInDim S2048x3 ![0, 1] bcast_S2048x1_S2048x3_0_1 (gate (norm f w.s1 w.o1) w.wg))
    (shift m (proj (norm f w.s1 w.o1) w.wq) (proj (norm f w.s1 w.o1) w.wk) (bias r w.wr w.br) c))

/-! ## The weights of a layer, cut from the stacked arrays -/

theorem slSq (l : Fin 2) : S2x128x128.Slices ![l.val, 0, 0] S1x128x128 := by revert l; decide
theorem slRb (l : Fin 2) : S2x64x8.Slices ![l.val, 0, 0] S1x64x8 := by revert l; decide
theorem slR8 (l : Fin 2) : S2x8.Slices ![l.val, 0] S1x8 := by revert l; decide
theorem slG (l : Fin 2) : S2x128x1.Slices ![l.val, 0, 0] S1x128x1 := by revert l; decide
theorem slR128 (l : Fin 2) : S2x128.Slices ![l.val, 0] S1x128 := by revert l; decide
theorem slR512 (l : Fin 2) : S2x512.Slices ![l.val, 0] S1x512 := by revert l; decide
theorem slW1 (l : Fin 2) : S2x128x512.Slices ![l.val, 0, 0] S1x128x512 := by revert l; decide
theorem slW2 (l : Fin 2) : S2x512x128.Slices ![l.val, 0, 0] S1x512x128 := by revert l; decide

/-- Layer `l`'s square weight. -/
def sq (l : Fin 2) (x : FVec F S2x128x128 .f32) : FVec F S128x128 .f32 :=
  shapeCast S128x128 (extractStridedSlice S1x128x128 ![l.val, 0, 0] x (slSq l)) shapeCasts_S1x128x128_S128x128

/-- Layer `l`'s row of 128. -/
def row (l : Fin 2) (x : FVec F S2x128 .f32) : FVec F S128 .f32 :=
  shapeCast S128 (extractStridedSlice S1x128 ![l.val, 0] x (slR128 l)) shapeCasts_S1x128_S128

/-- Layer `l`'s weights, cut from the stacked arrays. -/
def weights (l : Fin 2) (wq wk wv wo : FVec F S2x128x128 .f32) (wr : FVec F S2x64x8 .f32) (br : FVec F S2x8 .f32)
    (wg : FVec F S2x128x1 .f32) (w1 : FVec F S2x128x512 .f32) (b1 : FVec F S2x512 .f32) (w2 : FVec F S2x512x128 .f32)
    (b2 s1 o1 s2 o2 : FVec F S2x128 .f32) : Weights F where
  wq := sq l wq
  wk := sq l wk
  wv := sq l wv
  wo := sq l wo
  wr := shapeCast S64x8 (extractStridedSlice S1x64x8 ![l.val, 0, 0] wr (slRb l)) shapeCasts_S1x64x8_S64x8
  br := shapeCast S8 (extractStridedSlice S1x8 ![l.val, 0] br (slR8 l)) shapeCasts_S1x8_S8
  wg := shapeCast S128x1 (extractStridedSlice S1x128x1 ![l.val, 0, 0] wg (slG l)) shapeCasts_S1x128x1_S128x1
  w1 := shapeCast S128x512 (extractStridedSlice S1x128x512 ![l.val, 0, 0] w1 (slW1 l)) shapeCasts_S1x128x512_S128x512
  b1 := shapeCast S512 (extractStridedSlice S1x512 ![l.val, 0] b1 (slR512 l)) shapeCasts_S1x512_S512
  w2 := shapeCast S512x128 (extractStridedSlice S1x512x128 ![l.val, 0, 0] w2 (slW2 l)) shapeCasts_S1x512x128_S512x128
  b2 := row l b2
  s1 := row l s1
  o1 := row l o1
  s2 := row l s2
  o2 := row l o2

end Cert.ReferenceIdeal.Net
-- ==== Proof.RBody.lean ====
/-
  The reference's two results named as two layers of the network (`RStruct.lean`).
-/
module

public import proofs.«01_k».proof.Proof.RStruct

@[expose] public section

noncomputable section

namespace Cert.ReferenceIdeal.Net

open Idealize.ShloMosaic Cert.ReferenceIdeal Cert.ReferenceIdeal.Gen Cert.ReferenceIdeal.Read

variable {F : FTy → Type} [FloatOps F]

/-- The reference's arguments. -/
structure Args (F : FTy → Type) [FloatOps F] where
  x0 : FVec F S2048x128 .f32
  x1 : FVec F S2048x3 .f32
  x2 : IVec S2x2048 32
  x3 : FVec F S512x3 .f32
  x4 : IVec S512 32
  x5 : FVec F S2x128x128 .f32
  x6 : FVec F S2x128x128 .f32
  x7 : FVec F S2x128x128 .f32
  x8 : FVec F S2x128x128 .f32
  x9 : FVec F S2x64x8 .f32
  x10 : FVec F S2x8 .f32
  x11 : FVec F S2x128x1 .f32
  x12 : FVec F S2x128x512 .f32
  x13 : FVec F S2x512 .f32
  x14 : FVec F S2x512x128 .f32
  x15 : FVec F S2x128 .f32
  x16 : FVec F S2x128 .f32
  x17 : FVec F S2x128 .f32
  x18 : FVec F S2x128 .f32
  x19 : FVec F S2x128 .f32

namespace Args

variable (x : Args F)

/-- Layer `l`'s weights. -/
def w (l : Fin 2) : Weights F :=
  weights l x.x5 x.x6 x.x7 x.x8 x.x9 x.x10 x.x11 x.x12 x.x13 x.x14 x.x15 x.x16 x.x17 x.x18 x.x19

/-- Where the row's block equals the column's. -/
def m : IVec S2048x2048 1 := (val_main_v15 (F := F) x.x2 x.x4)

/-- The radial basis of every edge. -/
def r : FVec F S2048x64 .f32 := (val_main_v59 (F := F) x.x2 x.x3)

/-- The features after the first layer. -/
def f1 : FVec F S2048x128 .f32 := feat x.m x.r (x.w 0) x.x0

/-- The coordinates after the first layer. -/
def c1 : FVec F S2048x3 .f32 := coord x.m x.r (x.w 0) x.x0 x.x1

/-- The first layer's normalized features. -/
theorem norm0 :
    (val_main_v81 (F := F) x.x0 x.x16 x.x17) =
      Net.norm x.x0 (x.w 0).s1 (x.w 0).o1 := rfl

/-- The first layer's queries. -/
theorem query0 :
    (val_main_v84 (F := F) x.x0 x.x5 x.x16 x.x17) =
      proj (val_main_v81 (F := F) x.x0 x.x16 x.x17) (x.w 0).wq := rfl

/-- The first layer's keys. -/
theorem key0 :
    (val_main_v89 (F := F) x.x0 x.x6 x.x16 x.x17) =
      proj (val_main_v81 (F := F) x.x0 x.x16 x.x17) (x.w 0).wk := rfl

/-- The first layer's values. -/
theorem value0 :
    (val_main_v94 (F := F) x.x0 x.x7 x.x16 x.x17) =
      proj (val_main_v81 (F := F) x.x0 x.x16 x.x17) (x.w 0).wv := rfl

/-- The first layer's bias. -/
theorem bias0 :
    (val_main_v104 (F := F) x.x2 x.x3 x.x9 x.x10) =
      Net.bias x.r (x.w 0).wr (x.w 0).br := rfl

/-- The features after the first layer's attention, from its queries, keys and values. -/
theorem mid0 :
    (val_main_v148 (F := F) x.x0 x.x2 x.x3 x.x4 x.x5 x.x6 x.x7 x.x8 x.x9 x.x10 x.x16 x.x17) =
      addf x.x0 (proj (attn x.m (val_main_v84 (F := F) x.x0 x.x5 x.x16 x.x17) (val_main_v89 (F := F) x.x0 x.x6 x.x16 x.x17) (val_main_v94 (F := F) x.x0 x.x7 x.x16 x.x17) (val_main_v104 (F := F) x.x2 x.x3 x.x9 x.x10)) (x.w 0).wo) := rfl

/-- The features after the first layer's attention. -/
theorem mid0_eq :
    (val_main_v148 (F := F) x.x0 x.x2 x.x3 x.x4 x.x5 x.x6 x.x7 x.x8 x.x9 x.x10 x.x16 x.x17) =
      Net.mid x.m x.r (x.w 0) x.x0 := by
  rw [mid0, query0, key0, value0, norm0, bias0]; rfl

/-- The coordinates after the first layer, from its queries and keys. -/
theorem coord0 :
    (val_main_v159 (F := F) x.x0 x.x1 x.x2 x.x3 x.x4 x.x5 x.x6 x.x9 x.x10 x.x11 x.x16 x.x17) =
      addf x.x1 (mulf (broadcastInDim S2048x3 ![0, 1] bcast_S2048x1_S2048x3_0_1 (gate (val_main_v81 (F := F) x.x0 x.x16 x.x17) (x.w 0).wg)) (shift x.m (val_main_v84 (F := F) x.x0 x.x5 x.x16 x.x17) (val_main_v89 (F := F) x.x0 x.x6 x.x16 x.x17) (val_main_v104 (F := F) x.x2 x.x3 x.x9 x.x10) x.x1)) := rfl

/-- The coordinates after the first layer. -/
theorem coord0_eq :
    (val_main_v159 (F := F) x.x0 x.x1 x.x2 x.x3 x.x4 x.x5 x.x6 x.x9 x.x10 x.x11 x.x16 x.x17) =
      Net.coord x.m x.r (x.w 0) x.x0 x.x1 := by
  rw [coord0, query0, key0, norm0, bias0]; rfl

/-- The features after the first layer, from those after its attention. -/
theorem feat0 :
    (val_main_v199 (F := F) x.x0 x.x2 x.x3 x.x4 x.x5 x.x6 x.x7 x.x8 x.x9 x.x10 x.x12 x.x13 x.x14 x.x15 x.x16 x.x17 x.x18 x.x19) =
      ffn (val_main_v148 (F := F) x.x0 x.x2 x.x3 x.x4 x.x5 x.x6 x.x7 x.x8 x.x9 x.x10 x.x16 x.x17) (Net.norm (val_main_v148 (F := F) x.x0 x.x2 x.x3 x.x4 x.x5 x.x6 x.x7 x.x8 x.x9 x.x10 x.x16 x.x17) (x.w 0).s2 (x.w 0).o2) (x.w 0).w1 (x.w 0).b1 (x.w 0).w2 (x.w 0).b2 := rfl

/-- The features after the first layer. -/
theorem feat0_eq :
    (val_main_v199 (F := F) x.x0 x.x2 x.x3 x.x4 x.x5 x.x6 x.x7 x.x8 x.x9 x.x10 x.x12 x.x13 x.x14 x.x15 x.x16 x.x17 x.x18 x.x19) =
      Net.feat x.m x.r (x.w 0) x.x0 := by
  rw [feat0, mid0_eq]; rfl

/-- The second layer's normalized features. -/
theorem norm1 :
    (val_main_v221 (F := F) x.x0 x.x2 x.x3 x.x4 x.x5 x.x6 x.x7 x.x8 x.x9 x.x10 x.x12 x.x13 x.x14 x.x15 x.x16 x.x17 x.x18 x.x19) =
      Net.norm (val_main_v199 (F := F) x.x0 x.x2 x.x3 x.x4 x.x5 x.x6 x.x7 x.x8 x.x9 x.x10 x.x12 x.x13 x.x14 x.x15 x.x16 x.x17 x.x18 x.x19) (x.w 1).s1 (x.w 1).o1 := rfl

/-- The second layer's queries. -/
theorem query1 :
    (val_main_v224 (F := F) x.x0 x.x2 x.x3 x.x4 x.x5 x.x6 x.x7 x.x8 x.x9 x.x10 x.x12 x.x13 x.x14 x.x15 x.x16 x.x17 x.x18 x.x19) =
      proj (val_main_v221 (F := F) x.x0 x.x2 x.x3 x.x4 x.x5 x.x6 x.x7 x.x8 x.x9 x.x10 x.x12 x.x13 x.x14 x.x15 x.x16 x.x17 x.x18 x.x19) (x.w 1).wq := rfl

/-- The second layer's keys. -/
theorem key1 :
    (val_main_v229 (F := F) x.x0 x.x2 x.x3 x.x4 x.x5 x.x6 x.x7 x.x8 x.x9 x.x10 x.x12 x.x13 x.x14 x.x15 x.x16 x.x17 x.x18 x.x19) =
      proj (val_main_v221 (F := F) x.x0 x.x2 x.x3 x.x4 x.x5 x.x6 x.x7 x.x8 x.x9 x.x10 x.x12 x.x13 x.x14 x.x15 x.x16 x.x17 x.x18 x.x19) (x.w 1).wk := rfl

/-- The second layer's values. -/
theorem value1 :
    (val_main_v234 (F := F) x.x0 x.x2 x.x3 x.x4 x.x5 x.x6 x.x7 x.x8 x.x9 x.x10 x.x12 x.x13 x.x14 x.x15 x.x16 x.x17 x.x18 x.x19) =
      proj (val_main_v221 (F := F) x.x0 x.x2 x.x3 x.x4 x.x5 x.x6 x.x7 x.x8 x.x9 x.x10 x.x12 x.x13 x.x14 x.x15 x.x16 x.x17 x.x18 x.x19) (x.w 1).wv := rfl

/-- The second layer's bias. -/
theorem bias1 :
    (val_main_v244 (F := F) x.x2 x.x3 x.x9 x.x10) =
      Net.bias x.r (x.w 1).wr (x.w 1).br := rfl

/-- The features after the second layer's attention, from its queries, keys and values. -/
theorem mid1 :
    (val_main_v288 (F := F) x.x0 x.x2 x.x3 x.x4 x.x5 x.x6 x.x7 x.x8 x.x9 x.x10 x.x12 x.x13 x.x14 x.x15 x.x16 x.x17 x.x18 x.x19) =
      addf (val_main_v199 (F := F) x.x0 x.x2 x.x3 x.x4 x.x5 x.x6 x.x7 x.x8 x.x9 x.x10 x.x12 x.x13 x.x14 x.x15 x.x16 x.x17 x.x18 x.x19) (proj (attn x.m (val_main_v224 (F := F) x.x0 x.x2 x.x3 x.x4 x.x5 x.x6 x.x7 x.x8 x.x9 x.x10 x.x12 x.x13 x.x14 x.x15 x.x16 x.x17 x.x18 x.x19) (val_main_v229 (F := F) x.x0 x.x2 x.x3 x.x4 x.x5 x.x6 x.x7 x.x8 x.x9 x.x10 x.x12 x.x13 x.x14 x.x15 x.x16 x.x17 x.x18 x.x19) (val_main_v234 (F := F) x.x0 x.x2 x.x3 x.x4 x.x5 x.x6 x.x7 x.x8 x.x9 x.x10 x.x12 x.x13 x.x14 x.x15 x.x16 x.x17 x.x18 x.x19) (val_main_v244 (F := F) x.x2 x.x3 x.x9 x.x10)) (x.w 1).wo) := rfl

/-- The features after the second layer's attention. -/
theorem mid1_eq :
    (val_main_v288 (F := F) x.x0 x.x2 x.x3 x.x4 x.x5 x.x6 x.x7 x.x8 x.x9 x.x10 x.x12 x.x13 x.x14 x.x15 x.x16 x.x17 x.x18 x.x19) =
      Net.mid x.m x.r (x.w 1) (val_main_v199 (F := F) x.x0 x.x2 x.x3 x.x4 x.x5 x.x6 x.x7 x.x8 x.x9 x.x10 x.x12 x.x13 x.x14 x.x15 x.x16 x.x17 x.x18 x.x19) := by
  rw [mid1, query1, key1, value1, norm1, bias1]; rfl

/-- The coordinates after the second layer, from its queries and keys. -/
theorem coord1 :
    (val_main_v299 (F := F) x.x0 x.x1 x.x2 x.x3 x.x4 x.x5 x.x6 x.x7 x.x8 x.x9 x.x10 x.x11 x.x12 x.x13 x.x14 x.x15 x.x16 x.x17 x.x18 x.x19) =
      addf (val_main_v159 (F := F) x.x0 x.x1 x.x2 x.x3 x.x4 x.x5 x.x6 x.x9 x.x10 x.x11 x.x16 x.x17) (mulf (broadcastInDim S2048x3 ![0, 1] bcast_S2048x1_S2048x3_0_1 (gate (val_main_v221 (F := F) x.x0 x.x2 x.x3 x.x4 x.x5 x.x6 x.x7 x.x8 x.x9 x.x10 x.x12 x.x13 x.x14 x.x15 x.x16 x.x17 x.x18 x.x19) (x.w 1).wg)) (shift x.m (val_main_v224 (F := F) x.x0 x.x2 x.x3 x.x4 x.x5 x.x6 x.x7 x.x8 x.x9 x.x10 x.x12 x.x13 x.x14 x.x15 x.x16 x.x17 x.x18 x.x19) (val_main_v229 (F := F) x.x0 x.x2 x.x3 x.x4 x.x5 x.x6 x.x7 x.x8 x.x9 x.x10 x.x12 x.x13 x.x14 x.x15 x.x16 x.x17 x.x18 x.x19) (val_main_v244 (F := F) x.x2 x.x3 x.x9 x.x10) (val_main_v159 (F := F) x.x0 x.x1 x.x2 x.x3 x.x4 x.x5 x.x6 x.x9 x.x10 x.x11 x.x16 x.x17))) := rfl

/-- The coordinates after the second layer. -/
theorem coord1_eq :
    (val_main_v299 (F := F) x.x0 x.x1 x.x2 x.x3 x.x4 x.x5 x.x6 x.x7 x.x8 x.x9 x.x10 x.x11 x.x12 x.x13 x.x14 x.x15 x.x16 x.x17 x.x18 x.x19) =
      Net.coord x.m x.r (x.w 1) (val_main_v199 (F := F) x.x0 x.x2 x.x3 x.x4 x.x5 x.x6 x.x7 x.x8 x.x9 x.x10 x.x12 x.x13 x.x14 x.x15 x.x16 x.x17 x.x18 x.x19) (val_main_v159 (F := F) x.x0 x.x1 x.x2 x.x3 x.x4 x.x5 x.x6 x.x9 x.x10 x.x11 x.x16 x.x17) := by
  rw [coord1, query1, key1, norm1, bias1]; rfl

/-- The features after the second layer, from those after its attention. -/
theorem feat1 :
    (val_main_v339 (F := F) x.x0 x.x2 x.x3 x.x4 x.x5 x.x6 x.x7 x.x8 x.x9 x.x10 x.x12 x.x13 x.x14 x.x15 x.x16 x.x17 x.x18 x.x19) =
      ffn (val_main_v288 (F := F) x.x0 x.x2 x.x3 x.x4 x.x5 x.x6 x.x7 x.x8 x.x9 x.x10 x.x12 x.x13 x.x14 x.x15 x.x16 x.x17 x.x18 x.x19) (Net.norm (val_main_v288 (F := F) x.x0 x.x2 x.x3 x.x4 x.x5 x.x6 x.x7 x.x8 x.x9 x.x10 x.x12 x.x13 x.x14 x.x15 x.x16 x.x17 x.x18 x.x19) (x.w 1).s2 (x.w 1).o2) (x.w 1).w1 (x.w 1).b1 (x.w 1).w2 (x.w 1).b2 := rfl

/-- The features after the second layer. -/
theorem feat1_eq :
    (val_main_v339 (F := F) x.x0 x.x2 x.x3 x.x4 x.x5 x.x6 x.x7 x.x8 x.x9 x.x10 x.x12 x.x13 x.x14 x.x15 x.x16 x.x17 x.x18 x.x19) =
      Net.feat x.m x.r (x.w 1) (val_main_v199 (F := F) x.x0 x.x2 x.x3 x.x4 x.x5 x.x6 x.x7 x.x8 x.x9 x.x10 x.x12 x.x13 x.x14 x.x15 x.x16 x.x17 x.x18 x.x19) := by
  rw [feat1, mid1_eq]; rfl

/-- The reference's features. -/
theorem out_feat :
    (val_main_v339 (F := F) x.x0 x.x2 x.x3 x.x4 x.x5 x.x6 x.x7 x.x8 x.x9 x.x10 x.x12 x.x13 x.x14 x.x15 x.x16 x.x17 x.x18 x.x19) =
      Net.feat x.m x.r (x.w 1) x.f1 := by
  rw [feat1_eq, feat0_eq]; rfl

/-- The reference's coordinates. -/
theorem out_coord :
    (val_main_v299 (F := F) x.x0 x.x1 x.x2 x.x3 x.x4 x.x5 x.x6 x.x7 x.x8 x.x9 x.x10 x.x11 x.x12 x.x13 x.x14 x.x15 x.x16 x.x17 x.x18 x.x19) =
      Net.coord x.m x.r (x.w 1) x.f1 x.c1 := by
  rw [coord1_eq, feat0_eq, coord0_eq]; rfl

end Args

end Cert.ReferenceIdeal.Net
-- ==== Proof.Parts.lean ====
/-
  The parts of a layer on which the two programs compute the same array operation by operation: sums of rows, the
  normalization, the projections, the bias, the gate and the perceptron.
-/
module

public import proofs.«01_k».proof.Proof.KBody
public import proofs.«01_k».proof.Proof.RBody
public import Idealize.ShloMosaic.Lib.KernelVsHost
public import Idealize.ShloMosaic.Lib.ValueIdx

@[expose] public section

noncomputable section

namespace Cert.Parts

open Idealize.ShloMosaic Idealize.ShloMosaic.ValueIdx Cert.KernelIdeal Cert.KernelIdeal.Gen

/-! ## Reading at an index -/

/-- A column spread over the columns, read at an index. -/
theorem toCols {n m : Nat} (hn : n ≠ 1) {α : Type} (x : (⟨2, ![n, 1]⟩ : Shape).Idx → α)
    (h : (⟨2, ![n, 1]⟩ : Shape).Broadcasts ⟨2, ![n, m]⟩) (i : Fin n) (j : Fin m) :
    broadcastTo ⟨2, ![n, m]⟩ x h (ix2 i j) = x (ix2 i 0) :=
  broadcastTo_apply x h _ _ fun a => match a with
    | ⟨0, _⟩ => by show i.val = if n = 1 then 0 else i.val; rw [if_neg hn]
    | ⟨1, _⟩ => rfl

/-- A row spread over the rows, read at an index. -/
theorem toRows {n m : Nat} (hm : m ≠ 1) {α : Type} (x : (⟨2, ![1, m]⟩ : Shape).Idx → α)
    (h : (⟨2, ![1, m]⟩ : Shape).Broadcasts ⟨2, ![n, m]⟩) (i : Fin n) (j : Fin m) :
    broadcastTo ⟨2, ![n, m]⟩ x h (ix2 i j) = x (ix2 0 j) :=
  broadcastTo_apply x h _ _ fun a => match a with
    | ⟨0, _⟩ => rfl
    | ⟨1, _⟩ => by show j.val = if m = 1 then 0 else j.val; rw [if_neg hm]

/-- The host's column spread over the columns, read at an index. -/
theorem inCols {n m : Nat} (hn : n ≠ 1) {α : Type} (x : (⟨2, ![n, 1]⟩ : Shape).Idx → α)
    (h : (⟨2, ![n, 1]⟩ : Shape).BroadcastsInDim ⟨2, ![n, m]⟩ ![0, 1]) (i : Fin n) (j : Fin m) :
    broadcastInDim ⟨2, ![n, m]⟩ ![0, 1] h x (ix2 i j) = x (ix2 i 0) :=
  broadcastInDim_apply ![0, 1] h x _ _ fun a => match a with
    | ⟨0, _⟩ => by show i.val = if n = 1 then 0 else i.val; rw [if_neg hn]
    | ⟨1, _⟩ => rfl

/-- The host's row of a vector spread over the rows, read at an index. -/
theorem inRows {n m : Nat} (hm : m ≠ 1) {α : Type} (x : (⟨1, ![m]⟩ : Shape).Idx → α)
    (h' : (⟨1, ![m]⟩ : Shape).BroadcastsInDim ⟨2, ![1, m]⟩ ![1])
    (h : (⟨2, ![1, m]⟩ : Shape).BroadcastsInDim ⟨2, ![n, m]⟩ ![0, 1]) (i : Fin n) (j : Fin m) :
    broadcastInDim ⟨2, ![n, m]⟩ ![0, 1] h (broadcastInDim ⟨2, ![1, m]⟩ ![1] h' x) (ix2 i j) = x (ix1 j) :=
  (broadcastInDim_oneRow_apply h _ i j).trans (broadcastInDim_apply ![1] h' x _ _ fun a => match a with
    | ⟨0, _⟩ => by show j.val = if m = 1 then 0 else j.val; rw [if_neg hm])

/-- A vector made a column, read at an index. -/
theorem asCol {n : Nat} {α : Type} (x : (⟨1, ![n]⟩ : Shape).Idx → α) (h : (⟨1, ![n]⟩ : Shape).ShapeCasts ⟨2, ![n, 1]⟩) (i : Fin n) :
    shapeCast ⟨2, ![n, 1]⟩ x h (ix2 i 0) = x (ix1 i) :=
  shapeCast_apply x h _ _ (by
    rw [Shape.rowMajor_val_one, Shape.rowMajor_val_two]
    show i.val = i.val * 1 + 0
    omega)

/-- The host's vector made a column, read at an index. -/
theorem inCol {n : Nat} (hn : n ≠ 1) {α : Type} (x : (⟨1, ![n]⟩ : Shape).Idx → α)
    (h : (⟨1, ![n]⟩ : Shape).BroadcastsInDim ⟨2, ![n, 1]⟩ ![0]) (i : Fin n) :
    broadcastInDim ⟨2, ![n, 1]⟩ ![0] h x (ix2 i 0) = x (ix1 i) :=
  broadcastInDim_apply ![0] h x _ _ fun a => match a with
    | ⟨0, _⟩ => by show i.val = if n = 1 then 0 else i.val; rw [if_neg hn]

/-- Arrays of rank two that agree at every pair of coordinates are the same. -/
theorem ext2 {n m : Nat} {α : Type} {x y : (⟨2, ![n, m]⟩ : Shape).Idx → α} (h : ∀ i j, x (ix2 i j) = y (ix2 i j)) : x = y := by
  funext k; rw [eq_ix2 k]; exact h _ _

/-- Columns that agree at every row are the same. -/
theorem extCol {n : Nat} {α : Type} {x y : (⟨2, ![n, 1]⟩ : Shape).Idx → α} (h : ∀ i, x (ix2 i 0) = y (ix2 i 0)) : x = y :=
  ext2 fun i j => by obtain rfl : j = 0 := Subsingleton.elim _ _; exact h i

/-! ## Normalization -/

/-- The sums of the rows. -/
theorem rowSum_eq (x : FVec Ideal S2048x128 .f32) :
    shapeCast S2048x1 (multiReduction .add [1] S2048 x 0x00000000#32 reduces_S2048x128_S2048 (.inl rfl) rfl) shapeCasts_S2048_S2048x1
      = ReferenceIdeal.Net.rowSum x := by
  have e := multiReduction_add_eq_hostReduceAdd x 0x00000000#32 reduces_S2048x128_S2048 (.inl rfl) rfl
    (ReferenceIdeal.Net.lit 0x00000000#32) ReferenceIdeal.Gen.reducesTo_S2048x128_S2048_d1 ReferenceIdeal.Gen.h_S_
    Ideal.ofBits_zero_f32
  exact extCol fun i => (asCol _ _ i).trans ((congrFun e (ix1 i)).trans (inCol (by decide) _ _ i).symm)

/-- The means of the rows. -/
theorem mean_eq (x : FVec Ideal S2048x128 .f32) : KernelIdeal.Net.mean x = ReferenceIdeal.Net.mean x := by
  show divf _ _ = Host.divf _ _
  rw [rowSum_eq]; rfl

/-- The centred rows. -/
theorem centred_eq (x : FVec Ideal S2048x128 .f32) : KernelIdeal.Net.centred x = ReferenceIdeal.Net.centred x := by
  show subf x _ = subf x _
  rw [mean_eq]
  congr 1
  exact ext2 fun i j => (toCols (by decide) _ _ i j).trans (inCols (by decide) _ _ i j).symm

theorem ofBits_128 : Ideal.ofBits .f32 0x43000000#32 = ((128 : ℝ) : EReal) := by
  simp [Ideal.ofBits, Ideal.ieee]
  rw [← EReal.coe_mul]; norm_num

/-- The count the variance divides by is 128. -/
theorem count_eq : ReferenceIdeal.Net.count (F := Ideal) ix0 = ((128 : ℝ) : EReal) := by
  show Ideal.ofBits .f32 0x43000000#32 - (Scalar.sitofp .f32 0#32 : Ideal .f32) = _
  rw [sitofp_zero, ofBits_128, sub_zero]

/-- The variances. -/
theorem variance_eq (x : FVec Ideal S2048x128 .f32) :
    KernelIdeal.Net.mean (mulf (KernelIdeal.Net.centred x) (KernelIdeal.Net.centred x)) = ReferenceIdeal.Net.variance x := by
  rw [mean_eq, centred_eq]
  have hc : cmpf .ogt (ReferenceIdeal.Net.count (F := Ideal)) (ReferenceIdeal.Net.lit 0x00000000#32) ix0 = 1#1 := by
    show BitVec.ofBool (decide (ReferenceIdeal.Net.count (F := Ideal) ix0 > Ideal.ofBits .f32 0x00000000#32)) = 1#1
    rw [count_eq, Ideal.ofBits_zero_f32]
    have : (0 : EReal) < ((128 : ℝ) : EReal) := by norm_num
    simp [this]
  refine extCol fun i => ?_
  have hcnt : broadcastInDim S2048x1 ![] ReferenceIdeal.Gen.bcast_S_S2048x1 (ReferenceIdeal.Net.count (F := Ideal)) (ix2 i 0)
      = ((128 : ℝ) : EReal) := (congrArg _ (eq_ix0 _)).trans count_eq
  have hcm : broadcastInDim S2048x1 ![] ReferenceIdeal.Gen.bcast_S_S2048x1 (cmpf .ogt (ReferenceIdeal.Net.count (F := Ideal))
      (ReferenceIdeal.Net.lit 0x00000000#32)) (ix2 i 0) = 1#1 := (congrArg _ (eq_ix0 _)).trans hc
  unfold ReferenceIdeal.Net.variance
  rw [select_apply, hcm, select_one]
  show Ideal.div _ (Ideal.ofBits .f32 0x43000000#32) = Ideal.div _ _
  rw [hcnt, ofBits_128]

/-- The normalized rows, from a scale and an offset that agree. -/
theorem norm_eq (x : FVec Ideal S2048x128 .f32) (s b : FVec Ideal S1x128 .f32) (s' b' : FVec Ideal ReferenceIdeal.S128 .f32)
    (hs : ∀ j, s (ix2 0 j) = s' (ix1 j)) (hb : ∀ j, b (ix2 0 j) = b' (ix1 j)) :
    KernelIdeal.Net.norm x s b = ReferenceIdeal.Net.norm x s' b' := by
  unfold KernelIdeal.Net.norm
  rw [variance_eq, centred_eq]
  refine ext2 fun i j => ?_
  show Ideal.div _ _ * _ + _ = Ideal.div _ _ * _ + _
  rw [toRows (by decide) s, toRows (by decide) b, toCols (by decide), hs, hb]
  show _ = Ideal.div _ (broadcastInDim _ _ _ _ _) * ReferenceIdeal.Net.spread s' (ix2 i j) + ReferenceIdeal.Net.spread b' (ix2 i j)
  unfold ReferenceIdeal.Net.spread
  rw [inRows (by decide) s', inRows (by decide) b', inCols (by decide)]
  rfl

/-! ## Products -/

/-- The projections. -/
theorem proj_eq (h : FVec Ideal S2048x128 .f32) (w : FVec Ideal S128x128 .f32) :
    KernelIdeal.Net.proj h w = ReferenceIdeal.Net.proj h w := matmul_zero_eq_dotGeneral _ _ _ _

/-- The biases. -/
theorem bias_eq (r : FVec Ideal S2048x64 .f32) (w : FVec Ideal S64x8 .f32) (b : FVec Ideal S1x8 .f32) (b' : FVec Ideal ReferenceIdeal.S8 .f32)
    (hb : ∀ j, b (ix2 0 j) = b' (ix1 j)) : KernelIdeal.Net.bias r w b = ReferenceIdeal.Net.bias r w b' := by
  unfold KernelIdeal.Net.bias ReferenceIdeal.Net.bias
  rw [matmul_zero_eq_dotGeneral]
  exact congrArg₂ addf rfl (ext2 fun i j => (toRows (by decide) _ _ i j).trans ((hb j).trans (inRows (by decide) _ _ _ i j).symm))

/-- The hidden units. -/
theorem hidden_eq (h : FVec Ideal S2048x128 .f32) (w : FVec Ideal S128x512 .f32) (b : FVec Ideal S1x512 .f32)
    (b' : FVec Ideal S512 .f32) (hb : ∀ j, b (ix2 0 j) = b' (ix1 j)) :
    KernelIdeal.Net.hidden h w b = ReferenceIdeal.Net.hidden h w b' := by
  unfold KernelIdeal.Net.hidden ReferenceIdeal.Net.hidden
  rw [matmul_zero_eq_dotGeneral]
  exact congrArg₂ addf rfl (ext2 fun i j => (toRows (by decide) _ _ i j).trans ((hb j).trans (inRows (by decide) _ _ _ i j).symm))

theorem ofBits_one : Ideal.ofBits .f32 0x3F800000#32 = 1 := by
  simp [Ideal.ofBits, Ideal.ieee]
  rw [← EReal.coe_mul]; norm_num

/-- The activation. -/
theorem active_eq (u : FVec Ideal S2048x512 .f32) : mulf u (logistic u) = ReferenceIdeal.Net.active u := by
  refine ext2 fun i j => ?_
  show u (ix2 i j) * Ideal.logistic (u (ix2 i j)) = u (ix2 i j) * Ideal.div (Ideal.ofBits .f32 0x3F800000#32)
    (Ideal.ofBits .f32 0x3F800000#32 + Ideal.exp (-u (ix2 i j)))
  rw [ofBits_one]; rfl

/-- The perceptron. -/
theorem ffn_eq (f h : FVec Ideal S2048x128 .f32) (w1 : FVec Ideal S128x512 .f32) (b1 : FVec Ideal S1x512 .f32)
    (w2 : FVec Ideal S512x128 .f32) (b2 : FVec Ideal S1x128 .f32) (b1' : FVec Ideal S512 .f32) (b2' : FVec Ideal ReferenceIdeal.S128 .f32)
    (h1 : ∀ j, b1 (ix2 0 j) = b1' (ix1 j)) (h2 : ∀ j, b2 (ix2 0 j) = b2' (ix1 j)) :
    KernelIdeal.Net.ffn f h w1 b1 w2 b2 = ReferenceIdeal.Net.ffn f h w1 b1' w2 b2' := by
  unfold KernelIdeal.Net.ffn ReferenceIdeal.Net.ffn
  rw [matmul_zero_eq_dotGeneral, hidden_eq h w1 b1 b1' h1, active_eq]
  refine ext2 fun i j => ?_
  show f (ix2 i j) + _ + _ = f (ix2 i j) + (_ + ReferenceIdeal.Net.spread b2' (ix2 i j))
  unfold ReferenceIdeal.Net.spread
  rw [toRows (by decide), h2, inRows (by decide), add_assoc]
  rfl

end Cert.Parts
-- ==== Proof.Scalars.lean ====
/-
  Facts about extended reals that the comparison of the two programs rests on: a real factor moved through a sum, the
  range of a softmax, and the reality of a normalized value.
-/
module

public import Idealize.ShloMosaic.PureOps.Ideal
public import Idealize.ShloMosaic.PureOps.Ideal.Laws

@[expose] public section

noncomputable section

namespace Cert.Scalars

open Idealize.ShloMosaic

/-- A nonnegative real factor moves out of a finite sum. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- A real factor distributes over two terms neither of which is plus infinity. -/
theorem add_mul_coe {a b : EReal} (ha : a ≠ ⊤) (hb : b ≠ ⊤) (v : ℝ) :
    (a + b) * (v : EReal) = a * (v : EReal) + b * (v : EReal) := by
  rcases le_or_gt 0 v with hv | hv
  · exact EReal.right_distrib_of_nonneg_of_ne_top (EReal.coe_nonneg.2 hv) (EReal.coe_ne_top v) a b
  · have hb' : (v : EReal) < 0 := EReal.coe_neg'.2 hv
    induction a with
    | top => exact absurd rfl ha
    | bot =>
      rw [EReal.bot_add, EReal.bot_mul_of_neg hb', EReal.top_add_of_ne_bot]
      induction b with
      | top => exact absurd rfl hb
      | bot => rw [EReal.bot_mul_of_neg hb']; exact top_ne_bot
      | coe b => rw [← EReal.coe_mul]; exact EReal.coe_ne_bot _
    | coe a =>
      induction b with
      | top => exact absurd rfl hb
      | bot => rw [EReal.add_bot, EReal.bot_mul_of_neg hb', ← EReal.coe_mul, EReal.coe_add_top]
      | coe b => rw [← EReal.coe_add, ← EReal.coe_mul, ← EReal.coe_mul, ← EReal.coe_mul, ← EReal.coe_add, add_mul]

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self _ _)
    obtain ⟨y, hy⟩ := ih fun i hi => h i (Finset.mem_insert_of_mem hi)
    exact ⟨x + y, by rw [Finset.sum_insert ha, hx, hy, EReal.coe_add]⟩

/-! ## Coordinates -/

/-- Column `d` of head `h`. -/
def col (h : Fin 8) (d : Fin 16) : Fin 128 := ⟨16 * h.val + d.val, by have := h.isLt; have := d.isLt; omega⟩

/-- Row `i` of tile `t`. -/
def rowOf (t : Fin 4) (i : Fin 512) : Fin 2048 := ⟨512 * t.val + i.val, by have := t.isLt; have := i.isLt; omega⟩

/-- Every column is a column of a head. -/
theorem exists_col (c : Fin 128) : ∃ h d, c = col h d :=
  ⟨⟨c.val / 16, by have := c.isLt; omega⟩, ⟨c.val % 16, by omega⟩, Fin.ext (by show c.val = 16 * (c.val / 16) + c.val % 16; omega)⟩

/-- Every row is a row of a tile. -/
theorem exists_row (r : Fin 2048) : ∃ t i, r = rowOf t i :=
  ⟨⟨r.val / 512, by have := r.isLt; omega⟩, ⟨r.val % 512, by omega⟩,
    Fin.ext (by show r.val = 512 * (r.val / 512) + r.val % 512; omega)⟩

/-! ## Softmax -/

/-- The softmax of a row, at one of its entries. -/
def soft {n : Nat} (x : Fin n → EReal) (j : Fin n) : EReal :=
  Ideal.div (Ideal.exp (x j - Finset.univ.fold max (Ideal.ofBits .f32 0xFF800000#32) x))
    (∑ k, Ideal.exp (x k - Finset.univ.fold max (Ideal.ofBits .f32 0xFF800000#32) x))

/-- The exponential of a difference from something at least as great lies between zero and one. -/
theorem exp_sub_unit {x m : EReal} (h : x ≤ m) : ∃ r : ℝ, 0 ≤ r ∧ Ideal.exp (x - m) = r := by
  induction m with
  | top => exact ⟨0, le_rfl, by rw [EReal.sub_top]; rfl⟩
  | bot =>
    obtain rfl : x = ⊥ := le_bot_iff.1 h
    exact ⟨0, le_rfl, by rw [EReal.bot_sub]; rfl⟩
  | coe m =>
    induction x with
    | top => exact absurd h (by simp)
    | bot => exact ⟨0, le_rfl, by rw [EReal.bot_sub]; rfl⟩
    | coe x => exact ⟨Real.exp (x - m), (Real.exp_pos _).le, by rw [← EReal.coe_sub]; rfl⟩

/-- A softmax is never plus infinity. -/
theorem soft_ne_top {n : Nat} (x : Fin n → EReal) (j : Fin n) : soft x j ≠ ⊤ := by
  set m := Finset.univ.fold max (Ideal.ofBits .f32 0xFF800000#32) x with hm
  have hle : ∀ k, x k ≤ m := fun k => (Finset.le_fold_max (x k)).2 (.inr ⟨k, Finset.mem_univ k, le_rfl⟩)
  have hr : ∀ k, ∃ r : ℝ, 0 ≤ r ∧ Ideal.exp (x k - m) = r := fun k => exp_sub_unit (hle k)
  choose r h0 hr using hr
  have hs : ∑ k, Ideal.exp (x k - m) = ((∑ k, r k : ℝ) : EReal) := by
    rw [Finset.sum_congr rfl fun k _ => hr k]
    exact (coe_sum _ _).symm
  show Ideal.div (Ideal.exp (x j - m)) (∑ k, Ideal.exp (x k - m)) ≠ ⊤
  rw [hs, hr j]
  unfold Ideal.div
  split
  · next hz =>
    have hz' : ∑ k, r k = 0 := by exact_mod_cast hz
    have : r j = 0 := (Finset.sum_eq_zero_iff_of_nonneg fun k _ => h0 k).1 hz' j (Finset.mem_univ j)
    rw [this]
    simp
  · rw [← EReal.coe_inv, ← EReal.coe_mul]
    exact EReal.coe_ne_top _

/-! ## Normalization -/

/-- The sum of nonnegative values is a real only where each of them is. -/
theorem real_of_sum_real {ι : Type} (s : Finset ι) (f : ι → EReal) (h0 : ∀ i ∈ s, 0 ≤ f i) (ht : ∑ i ∈ s, f i ≠ ⊤) (i : ι)
    (hi : i ∈ s) : f i ≠ ⊤ := fun e => ht (top_le_iff.1 (e ▸ Finset.single_le_sum h0 hi))

/-- A value divided by the root of the mean square of its row, kept off zero by a positive real, is a real: where the
    mean square is infinite the quotient is zero, and where it is not every value of the row is a real. -/
theorem normalized_real {n : Nat} (c : Fin n → EReal) (e N : ℝ) (he : 0 < e) (hN : 0 < N) (j : Fin n) :
    ∃ r : ℝ, Ideal.div (c j) (Ideal.sqrt (Ideal.div (∑ k, c k * c k) (N : EReal) + (e : EReal))) = r := by
  have hsq : ∀ x : EReal, 0 ≤ x * x := fun x => by
    rcases le_total 0 x with h | h
    · exact mul_nonneg h h
    · have := mul_nonneg (EReal.neg_nonneg.2 h) (EReal.neg_nonneg.2 h)
      rwa [neg_mul_neg] at this
  have h0 : 0 ≤ ∑ k, c k * c k := Finset.sum_nonneg fun k _ => hsq _
  have hN0 : (N : EReal) ≠ 0 := by exact_mod_cast hN.ne'
  have hd : Ideal.div (∑ k, c k * c k) (N : EReal) = (∑ k, c k * c k) * ((N⁻¹ : ℝ) : EReal) := by
    unfold Ideal.div; rw [if_neg hN0, EReal.coe_inv]
  rw [hd]
  by_cases ht : ∑ k, c k * c k = ⊤
  · rw [ht, EReal.top_mul_coe_of_pos (inv_pos.2 hN), EReal.top_add_coe]
    refine ⟨0, ?_⟩
    show Ideal.div (c j) ⊤ = _
    unfold Ideal.div
    rw [if_neg EReal.top_ne_zero, EReal.inv_top, mul_zero]; rfl
  · have hc : ∀ k, ∃ r : ℝ, c k = r := fun k => by
      have h := real_of_sum_real Finset.univ (fun k => c k * c k) (fun k _ => hsq _) ht k (Finset.mem_univ k)
      induction hk : c k with
      | top => exact absurd (by show c k * c k = ⊤; rw [hk]; rfl) h
      | bot => exact absurd (by show c k * c k = ⊤; rw [hk]; rfl) h
      | coe r => exact ⟨r, rfl⟩
    choose r hr using hc
    have hs : ∑ k, c k * c k = ((∑ k, r k * r k : ℝ) : EReal) := by
      rw [coe_sum]
      exact Finset.sum_congr rfl fun k _ => by rw [hr k, EReal.coe_mul]
    have hp : 0 < (∑ k, r k * r k) * N⁻¹ + e :=
      add_pos_of_nonneg_of_pos (mul_nonneg (Finset.sum_nonneg fun k _ => mul_self_nonneg _) (inv_pos.2 hN).le) he
    rw [hs, ← EReal.coe_mul, ← EReal.coe_add]
    have hq : Ideal.sqrt (((∑ k, r k * r k) * N⁻¹ + e : ℝ) : EReal) = (Real.sqrt ((∑ k, r k * r k) * N⁻¹ + e) : EReal) := by
      show (if _ then _ else _) = _
      rw [if_neg (not_lt.2 hp.le)]
    rw [hq, hr j]
    unfold Ideal.div
    rw [if_neg (by exact_mod_cast (Real.sqrt_pos.2 hp).ne'), ← EReal.coe_inv, ← EReal.coe_mul]
    exact ⟨_, rfl⟩

end Cert.Scalars
-- ==== Proof.KApply.lean ====
/-
  The kernel's attention, read at an index: a tile's rows are rows of the whole array.
-/
module

public import proofs.«01_k».proof.Proof.Parts
public import proofs.«01_k».proof.Proof.Scalars
public import Idealize.ShloMosaic.Lib.MatmulPlain

@[expose] public section

noncomputable section

namespace Cert.KernelIdeal.Net

open Idealize.ShloMosaic Idealize.ShloMosaic.ValueIdx Cert.KernelIdeal Cert.KernelIdeal.Gen Cert.Scalars Cert.Parts

/-- A product of two matrices, from zero, at an index. -/
theorem plain_apply {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (y : FVec Ideal ⟨2, ![K, N]⟩ .f32) (i : Fin M) (j : Fin N) :
    matmul d prec x y (constant ⟨2, ![M, N]⟩ .f32 0x00000000#32) (ix2 i j) = ∑ k : Fin K, x (ix2 i k) * y (ix2 k j) := by
  subst hd
  refine (Ideal.matmul_plain_apply prec x y _ i j).trans ?_
  show Ideal.ofBits .f32 0x00000000#32 + _ = _
  rw [Ideal.ofBits_zero_f32, zero_add]

/-- A product of a matrix and a transposed matrix, from zero, at an index. -/
theorem turned_apply {M K N : ℕ} (d : DotDims ⟨2, ![M, K]⟩ ⟨2, ![N, K]⟩ ⟨2, ![M, N]⟩) (hd : d = DotDims.transposedRhs M K N)
    (prec : Option ContractPrecision) (x : FVec Ideal ⟨2, ![M, K]⟩ .f32) (y : FVec Ideal ⟨2, ![N, K]⟩ .f32) (i : Fin M) (j : Fin N) :
    matmul d prec x y (constant ⟨2, ![M, N]⟩ .f32 0x00000000#32) (ix2 i j) = ∑ k : Fin K, x (ix2 i k) * y (ix2 j k) := by
  subst hd
  refine (Ideal.matmul_transposedRhs_apply prec x y _ i j).trans ?_
  show Ideal.ofBits .f32 0x00000000#32 + _ = _
  rw [Ideal.ofBits_zero_f32, zero_add]

/-- The logits of a tile, at an index: the seventeenth term of the sum is the bias. -/
theorem logits_apply (q k : FVec Ideal S2048x128 .f32) (b : FVec Ideal S2048x8 .f32) (t : Fin 4) (h : Fin 8) (i : Fin 512)
    (j : Fin 2048) :
    logits q k b t h (ix2 i j)
      = (∑ d : Fin 16, q (ix2 (rowOf t i) (col h d)) * k (ix2 j (col h d))) + b (ix2 j h) := by
  unfold logits
  refine (turned_apply _ rfl none _ _ i j).trans ((Fin.sum_univ_castSucc _).trans ?_)
  refine congrArg₂ (· + ·) (Finset.sum_congr rfl fun d _ => congrArg₂ (· * ·) ?_ ?_) ?_
  · rw [concatenate_pair_apply_left 1 _ _ concatenates_S512x16_S512x1_S512x17_d1 (ix2 i d.castSucc) rfl (ix2 i d)
      (fun a => match a with | ⟨0, _⟩ => rfl | ⟨1, _⟩ => rfl)]
    exact extractStridedSlice_apply _ _ _ _ _ fun a => match a with | ⟨0, _⟩ => rfl | ⟨1, _⟩ => rfl
  · rw [concatenate_pair_apply_left 1 _ _ concatenates_S2048x16_S2048x1_S2048x17_d1 (ix2 j d.castSucc) rfl (ix2 j d)
      (fun a => match a with | ⟨0, _⟩ => rfl | ⟨1, _⟩ => rfl)]
    exact extractStridedSlice_apply _ _ _ _ _ fun a => match a with | ⟨0, _⟩ => (Nat.zero_add _).symm | ⟨1, _⟩ => rfl
  · rw [concatenate_pair_apply_right 1 _ _ concatenates_S512x16_S512x1_S512x17_d1 (ix2 i (Fin.last 16)) rfl rfl (ix2 i 0)
      (fun a => match a with | ⟨0, _⟩ => fun _ => rfl | ⟨1, _⟩ => fun h => absurd rfl h) rfl,
      concatenate_pair_apply_right 1 _ _ concatenates_S2048x16_S2048x1_S2048x17_d1 (ix2 j (Fin.last 16)) rfl rfl (ix2 j 0)
      (fun a => match a with | ⟨0, _⟩ => fun _ => rfl | ⟨1, _⟩ => fun h => absurd rfl h) rfl]
    have e1 : ones (F := Ideal) (ix2 i 0) = 1 := ofBits_one
    have e2 : extractStridedSlice S2048x1 ![0, h.val] b (slBias h) (ix2 j 0) = b (ix2 j h) :=
      extractStridedSlice_apply _ _ _ _ _ fun a => match a with | ⟨0, _⟩ => (Nat.zero_add _).symm | ⟨1, _⟩ => rfl
    rw [e1, e2, one_mul]

/-- The mask of a tile, at an index. -/
theorem mask_apply (ec : FVec Ideal S2048x1 .f32) (er : FVec Ideal S1x2048 .f32) (t : Fin 4) (i : Fin 512) (j : Fin 2048) :
    mask ec er t (ix2 i j) = Ideal.cmp .oeq (ec (ix2 (rowOf t i) 0)) (er (ix2 0 j)) := by
  unfold mask
  show Ideal.cmp .oeq _ _ = _
  rw [toCols (by decide), toRows (by decide)]
  exact congrArg (Ideal.cmp .oeq · _) (extractStridedSlice_apply _ _ _ _ _ fun a => match a with | ⟨0, _⟩ => rfl | ⟨1, _⟩ => rfl)

/-- The exponentials of a tile, at an index. -/
theorem expo_apply (x : FVec Ideal S512x2048 .f32) (i : Fin 512) (j : Fin 2048) :
    expo x (ix2 i j) = Ideal.exp (x (ix2 i j)
      - Finset.univ.fold max (Ideal.ofBits .f32 0xFF800000#32) fun k : Fin 2048 => x (ix2 i k)) := by
  unfold expo
  refine congrArg Ideal.exp (congrArg (x (ix2 i j) - ·) ?_)
  refine (toCols (by decide) _ _ i j).trans ((asCol _ _ i).trans ?_)
  refine (Ideal.multiReduction_maximumf_single x 0xFF800000#32 reduces_S512x2048_S512 (.inl rfl) rfl (ix1 i)).trans ?_
  exact congrArg (Finset.univ.fold max (Ideal.ofBits .f32 0xFF800000#32)) (funext fun k =>
    congrArg x (funext fun a => Fin.ext (match a with | ⟨0, _⟩ => rfl | ⟨1, _⟩ => rfl)))

/-- The softmax of a tile, at an index. -/
theorem softmax_apply (x : FVec Ideal S512x2048 .f32) (i : Fin 512) (j : Fin 2048) :
    softmax x (ix2 i j) = soft (fun k => x (ix2 i k)) j := by
  unfold softmax
  refine congrArg₂ Ideal.div (expo_apply x i j) ?_
  refine (toCols (by decide) _ _ i j).trans ((asCol _ _ i).trans ?_)
  refine (Ideal.multiReduction_add_single (expo x) 0x00000000#32 reduces_S512x2048_S512 (.inl rfl) rfl (ix1 i)).trans ?_
  refine Finset.sum_congr rfl fun k _ => ?_
  have hk : reduces_S512x2048_S512.lift (ix1 i) k = ix2 i k :=
    funext fun a => Fin.ext (match a with | ⟨0, _⟩ => rfl | ⟨1, _⟩ => rfl)
  exact (congrArg (expo x) hk).trans (expo_apply x i k)

/-- The values a head gathers, at an index. -/
theorem head_apply (ec : FVec Ideal S2048x1 .f32) (er : FVec Ideal S1x2048 .f32) (q k v : FVec Ideal S2048x128 .f32)
    (b : FVec Ideal S2048x8 .f32) (t : Fin 4) (h : Fin 8) (i : Fin 512) (d : Fin 16) :
    head ec er q k v b t h (ix2 i d)
      = ∑ j : Fin 2048, (inner ec er q k b t h (ix2 i j) + outer ec er q k b t h (ix2 i j)) * v (ix2 j (col h d)) := by
  unfold head
  refine (plain_apply _ rfl none _ _ i d).trans (Finset.sum_congr rfl fun j _ => congrArg₂ (· * ·) rfl ?_)
  exact extractStridedSlice_apply _ _ _ _ _ fun a => match a with | ⟨0, _⟩ => (Nat.zero_add _).symm | ⟨1, _⟩ => rfl

/-- The attention of a tile, at an index: column `16 h + d` is column `d` of head `h`. -/
theorem tile_apply (ec : FVec Ideal S2048x1 .f32) (er : FVec Ideal S1x2048 .f32) (q k v : FVec Ideal S2048x128 .f32)
    (b : FVec Ideal S2048x8 .f32) (t : Fin 4) (i : Fin 512) (h : Fin 8) (d : Fin 16) :
    tile ec er q k v b t (ix2 i (col h d)) = head ec er q k v b t h (ix2 i d) :=
  concatenate_ofFn_apply (t := S512x128) 1 (fun h : Fin 8 => head ec er q k v b t h)
    concatenates_S512x16_S512x16_S512x16_S512x16_S512x16_S512x16_S512x16_S512x16_S512x128_d1 rfl 16 rfl (ix2 i (col h d)) h
    (by show (16 * h.val + d.val) / 16 = h.val; omega) (ix2 i d)
    (by show d.val = (16 * h.val + d.val) % 16; omega)
    (fun a => match a with | ⟨0, _⟩ => fun _ => rfl | ⟨1, _⟩ => fun h => absurd rfl h)

/-- The attention of the layer, at an index: row `512 t + i` is row `i` of tile `t`. -/
theorem attn_apply (ec : FVec Ideal S2048x1 .f32) (er : FVec Ideal S1x2048 .f32) (q k v : FVec Ideal S2048x128 .f32)
    (b : FVec Ideal S2048x8 .f32) (t : Fin 4) (i : Fin 512) (c : Fin 128) :
    attn ec er q k v b (ix2 (rowOf t i) c) = tile ec er q k v b t (ix2 i c) :=
  concatenate_ofFn_apply (t := S2048x128) 0 (fun t : Fin 4 => tile ec er q k v b t)
    concatenates_S512x128_S512x128_S512x128_S512x128_S2048x128_d0 rfl 512 rfl (ix2 (rowOf t i) c) t
    (by show (512 * t.val + i.val) / 512 = t.val; omega) (ix2 i c)
    (by show i.val = (512 * t.val + i.val) % 512; omega)
    (fun a => match a with | ⟨0, _⟩ => fun h => absurd rfl h | ⟨1, _⟩ => fun _ => rfl)

/-- The heads' sum of the inner attention of a tile, at an index. -/
theorem headSum_apply (ec : FVec Ideal S2048x1 .f32) (er : FVec Ideal S1x2048 .f32) (q k : FVec Ideal S2048x128 .f32)
    (b : FVec Ideal S2048x8 .f32) (t : Fin 4) (i : Fin 512) (j : Fin 2048) :
    headSum ec er q k b t (ix2 i j) = ∑ h : Fin 8, inner ec er q k b t h (ix2 i j) := by
  rw [Fin.sum_univ_eight]
  unfold headSum
  show Ideal.ofBits .f32 0x00000000#32 + _ + _ + _ + _ + _ + _ + _ + _ = _
  rw [Ideal.ofBits_zero_f32, zero_add]

/-- The average of the coordinates, at an index. -/
theorem shift_apply (ec : FVec Ideal S2048x1 .f32) (er : FVec Ideal S1x2048 .f32) (q k : FVec Ideal S2048x128 .f32)
    (b c : FVec Ideal S2048x8 .f32) (t : Fin 4) (i : Fin 512) (n : Fin 8) :
    shift ec er q k b c (ix2 (rowOf t i) n)
      = (∑ j : Fin 2048, (∑ h : Fin 8, inner ec er q k b t h (ix2 i j)) * c (ix2 j n)) * Ideal.ofBits .f32 0x3E000000#32 := by
  have e : shift ec er q k b c (ix2 (rowOf t i) n) = shiftTile ec er q k b c t (ix2 i n) :=
    concatenate_ofFn_apply (t := S2048x8) 0 (fun t : Fin 4 => shiftTile ec er q k b c t)
      concatenates_S512x8_S512x8_S512x8_S512x8_S2048x8_d0 rfl 512 rfl (ix2 (rowOf t i) n) t
      (by show (512 * t.val + i.val) / 512 = t.val; omega) (ix2 i n)
      (by show i.val = (512 * t.val + i.val) % 512; omega)
      (fun a => match a with | ⟨0, _⟩ => fun h => absurd rfl h | ⟨1, _⟩ => fun _ => rfl)
  rw [e]
  unfold shiftTile
  refine congrArg₂ (· * ·) ((plain_apply _ rfl none _ c i n).trans (Finset.sum_congr rfl fun j _ => ?_)) rfl
  rw [headSum_apply]

/-- The gate, at a row. -/
theorem gate_apply (h : FVec Ideal S2048x128 .f32) (w : FVec Ideal S1x128 .f32) (i : Fin 2048) :
    gate h w (ix2 i 0) = Ideal.tanh (∑ k : Fin 128, h (ix2 i k) * w (ix2 0 k)) := by
  unfold gate
  refine congrArg Ideal.tanh ((asCol _ _ i).trans ?_)
  refine (Ideal.multiReduction_add_single _ 0x00000000#32 reduces_S2048x128_S2048 (.inl rfl) rfl (ix1 i)).trans ?_
  refine Finset.sum_congr rfl fun k _ => ?_
  have hk : reduces_S2048x128_S2048.lift (ix1 i) k = ix2 i k :=
    funext fun a => Fin.ext (match a with | ⟨0, _⟩ => rfl | ⟨1, _⟩ => rfl)
  rw [hk]
  exact congrArg (h (ix2 i k) * ·) (toRows (by decide) _ _ i k)

end Cert.KernelIdeal.Net
-- ==== Proof.RApply.lean ====
/-
  The reference's attention, read at an index.
-/
module

public import proofs.«01_k».proof.Proof.RBody
public import proofs.«01_k».proof.Proof.Scalars
public import Idealize.ShloMosaic.Lib.KernelVsHost
public import Idealize.ShloMosaic.Lib.StackMember
public import Idealize.ShloMosaic.Lib.ValueIdx
public import Idealize.ShloMosaic.Lib.IdealHost

@[expose] public section

noncomputable section

namespace Cert.ReferenceIdeal.Net

open Idealize.ShloMosaic Idealize.ShloMosaic.ValueIdx Cert.ReferenceIdeal Cert.ReferenceIdeal.Gen Cert.Scalars

/-- A head's columns. -/
theorem heads_apply (x : FVec Ideal S2048x128 .f32) (h : Fin 8) (n : Fin 2048) (d : Fin 16) :
    heads x (ix3 h n d) = x (ix2 n (col h d)) := by
  unfold heads
  rw [transpose_apply _ _ _ (ix3 h n d) (ix3 n h d) (fun b => match b with | ⟨0, _⟩ => rfl | ⟨1, _⟩ => rfl | ⟨2, _⟩ => rfl)]
  refine shapeCast_apply x _ (ix3 n h d) (ix2 n (col h d)) ?_
  rw [Shape.rowMajor_val_two, Shape.rowMajor_val_three]
  show n.val * 128 + (16 * h.val + d.val) = (n.val * 8 + h.val) * 16 + d.val
  omega

/-- The products of the queries and the keys of one head. -/
theorem headDot_apply (q k : FVec Ideal S8x2048x16 .f32) (h : Fin 8) (i j : Fin 2048) :
    Host.dotGeneral dot_S8x2048x16_S8x2048x16_S8x2048x2048_2_2_1_1_0_0 none q k (ix3 h i j)
      = ∑ d : Fin 16, q (ix3 h i d) * k (ix3 h j d) := by
  show FloatOps.dotGeneral _ none _ q k (ix3 h i j) = _
  rw [Ideal.dotGeneral_apply,
    ← Equiv.sum_comp (contrEquiv1 dot_S8x2048x16_S8x2048x16_S8x2048x2048_2_2_1_1_0_0 16 rfl rfl).symm]
  refine Finset.sum_congr rfl fun d _ => ?_
  have hd := contrEquiv1_symm_val dot_S8x2048x16_S8x2048x16_S8x2048x2048_2_2_1_1_0_0 16 rfl rfl d
  exact congrArg₂ (· * ·)
    (congrArg q (funext fun a => Fin.ext (match a with | ⟨0, _⟩ => rfl | ⟨1, _⟩ => rfl | ⟨2, _⟩ => hd)))
    (congrArg k (funext fun a => Fin.ext (match a with | ⟨0, _⟩ => rfl | ⟨1, _⟩ => rfl | ⟨2, _⟩ => hd)))

/-- The products of a head's attention and its values. -/
theorem valueDot_apply (x : FVec Ideal S8x2048x2048 .f32) (v : FVec Ideal S8x2048x16 .f32) (h : Fin 8) (i : Fin 2048) (d : Fin 16) :
    Host.dotGeneral dot_S8x2048x2048_S8x2048x16_S8x2048x16_2_1_1_2_0_0 none x v (ix3 h i d)
      = ∑ j : Fin 2048, x (ix3 h i j) * v (ix3 h j d) := by
  show FloatOps.dotGeneral _ none _ x v (ix3 h i d) = _
  rw [Ideal.dotGeneral_apply,
    ← Equiv.sum_comp (contrEquiv1 dot_S8x2048x2048_S8x2048x16_S8x2048x16_2_1_1_2_0_0 2048 rfl rfl).symm]
  refine Finset.sum_congr rfl fun j _ => ?_
  have hj := contrEquiv1_symm_val dot_S8x2048x2048_S8x2048x16_S8x2048x16_2_1_1_2_0_0 2048 rfl rfl j
  exact congrArg₂ (· * ·)
    (congrArg x (funext fun a => Fin.ext (match a with | ⟨0, _⟩ => rfl | ⟨1, _⟩ => rfl | ⟨2, _⟩ => hj)))
    (congrArg v (funext fun a => Fin.ext (match a with | ⟨0, _⟩ => rfl | ⟨1, _⟩ => hj | ⟨2, _⟩ => rfl)))

/-- The logits, at an index. -/
theorem logits_apply (q k : FVec Ideal S2048x128 .f32) (b : FVec Ideal S2048x8 .f32) (h : Fin 8) (i j : Fin 2048) :
    logits q k b (ix3 h i j)
      = Ideal.div (∑ d : Fin 16, q (ix2 i (col h d)) * k (ix2 j (col h d))) (Ideal.sqrt (Ideal.ofBits .f32 0x41800000#32))
        + b (ix2 j h) := by
  unfold logits
  show Ideal.div _ _ + _ = _
  rw [headDot_apply]
  congr 1
  · congr 1
    exact Finset.sum_congr rfl fun d _ => by rw [heads_apply, heads_apply]
  · rw [broadcastInDim_apply _ _ _ (ix3 h i j) (ix3 h 0 j) (fun a => match a with | ⟨0, _⟩ => rfl | ⟨1, _⟩ => rfl | ⟨2, _⟩ => rfl),
      broadcastInDim_apply _ _ _ (ix3 h 0 j) (ix2 h j) (fun a => match a with | ⟨0, _⟩ => rfl | ⟨1, _⟩ => rfl),
      transpose_apply _ _ _ (ix2 h j) (ix2 j h) (fun a => match a with | ⟨0, _⟩ => rfl | ⟨1, _⟩ => rfl)]

/-- The masked logits, at an index. -/
theorem masked_apply (m : IVec S2048x2048 1) (x : FVec Ideal S8x2048x2048 .f32) (h : Fin 8) (i j : Fin 2048) :
    masked m x (ix3 h i j) = Scalar.select (m (ix2 i j)) (x (ix3 h i j)) (Ideal.ofBits .f32 0xCE6E6B28#32) := by
  unfold masked
  rw [select_apply]
  rw [broadcastInDim_apply _ _ _ (ix3 h i j) (ix3 0 i j) (fun a => match a with | ⟨0, _⟩ => rfl | ⟨1, _⟩ => rfl | ⟨2, _⟩ => rfl),
      broadcastInDim_apply _ _ _ (ix3 0 i j) (ix2 i j) (fun a => match a with | ⟨0, _⟩ => rfl | ⟨1, _⟩ => rfl)]
  rfl

/-- A value of each row of each head, spread over the columns. -/
theorem spreadRow_apply (x : FVec Ideal S8x2048 .f32) (h : Fin 8) (i j : Fin 2048) :
    spreadRow x (ix3 h i j) = x (ix2 h i) := by
  unfold spreadRow
  rw [broadcastInDim_apply _ _ _ (ix3 h i j) (ix3 h i 0) (fun a => match a with | ⟨0, _⟩ => rfl | ⟨1, _⟩ => rfl | ⟨2, _⟩ => rfl),
      broadcastInDim_apply _ _ _ (ix3 h i 0) (ix2 h i) (fun a => match a with | ⟨0, _⟩ => rfl | ⟨1, _⟩ => rfl)]

theorem reduces_last : Shape.Reduces S8x2048x2048 [2] S8x2048 := by decide

theorem ofBits_bot : Ideal.ofBits .f32 0xFF800000#32 = ⊥ := by simp [Ideal.ofBits, Ideal.ieee]

/-- The host's exponential, at an index. -/
theorem hostExp_at {s : Shape} (x : FVec Ideal s .f32) (i : s.Idx) : Host.exp x i = Ideal.exp (x i) := rfl

/-- The exponentials, at an index. -/
theorem expo_apply (x : FVec Ideal S8x2048x2048 .f32) (h : Fin 8) (i j : Fin 2048) :
    expo x (ix3 h i j) = Ideal.exp (x (ix3 h i j)
      - Finset.univ.fold max (Ideal.ofBits .f32 0xFF800000#32) fun k : Fin 2048 => x (ix3 h i k)) := by
  unfold expo
  rw [hostExp_at, subf_apply, spreadRow_apply, maximumf_apply]
  have e := congrFun (hostReduce_maximumf_eq_multiReduction x 0xFF800000#32 reducesTo_S8x2048x2048_S8x2048_d2 h_S_ reduces_last
    (.inl rfl) rfl) (ix2 h i)
  have e' := Ideal.multiReduction_maximumf_single x 0xFF800000#32 reduces_last (.inl rfl) rfl (ix2 h i)
  have e'' : Host.reduce FloatOps.maximumf x (lit 0xFF800000#32) reducesTo_S8x2048x2048_S8x2048_d2 h_S_ (ix2 h i)
      = Finset.univ.fold max (Ideal.ofBits .f32 0xFF800000#32) fun k : Fin 2048 => x (ix3 h i k) :=
    (e.trans e').trans (congrArg (Finset.univ.fold max (Ideal.ofBits .f32 0xFF800000#32)) (funext fun k =>
      congrArg x (funext fun a => Fin.ext (match a with | ⟨0, _⟩ => rfl | ⟨1, _⟩ => rfl | ⟨2, _⟩ => rfl))))
  rw [e'']
  have e0 : broadcastInDim S8x2048 ![] bcast_S_S8x2048 (lit (F := Ideal) 0xFF800000#32) (ix2 h i) = ⊥ := ofBits_bot
  rw [e0, max_eq_right bot_le]

/-- The softmax, at an index. -/
theorem softmax_apply (x : FVec Ideal S8x2048x2048 .f32) (h : Fin 8) (i j : Fin 2048) :
    softmax x (ix3 h i j) = soft (fun k => x (ix3 h i k)) j := by
  unfold softmax
  rw [hostDivf_apply, spreadRow_apply, expo_apply]
  show Ideal.div _ (Ideal.hostReduceAdd reducesTo_S8x2048x2048_S8x2048_d2 (expo x) (Ideal.ofBits .f32 0x00000000#32) (ix2 h i)) = _
  rw [Ideal.hostReduceAdd_single _ reduces_last, Ideal.ofBits_zero_f32, zero_add]
  refine congrArg (Ideal.div _) (Finset.sum_congr rfl fun k _ => ?_)
  have hk : reduces_last.lift (ix2 h i) k = ix3 h i k :=
    funext fun a => Fin.ext (match a with | ⟨0, _⟩ => rfl | ⟨1, _⟩ => rfl | ⟨2, _⟩ => rfl)
  exact (congrArg (expo x) hk).trans (expo_apply x h i k)

/-- The attention, at an index. -/
theorem attn_apply (m : IVec S2048x2048 1) (q k v : FVec Ideal S2048x128 .f32) (b : FVec Ideal S2048x8 .f32) (i : Fin 2048)
    (h : Fin 8) (d : Fin 16) :
    attn m q k v b (ix2 i (col h d))
      = (∑ j : Fin 2048, softmax (masked m (logits q k b)) (ix3 h i j) * v (ix2 j (col h d)))
        + ∑ j : Fin 2048, softmax (masked (noti m) (logits q k b)) (ix3 h i j) * v (ix2 j (col h d)) := by
  unfold attn
  rw [shapeCast_apply _ _ (ix2 i (col h d)) (ix3 i h d) (by
    rw [Shape.rowMajor_val_two, Shape.rowMajor_val_three]
    show (i.val * 8 + h.val) * 16 + d.val = i.val * 128 + (16 * h.val + d.val)
    omega),
    transpose_apply _ _ _ (ix3 i h d) (ix3 h i d) (fun b => match b with | ⟨0, _⟩ => rfl | ⟨1, _⟩ => rfl | ⟨2, _⟩ => rfl)]
  unfold gathered
  show Host.dotGeneral _ _ _ _ _ + Host.dotGeneral _ _ _ _ _ = _
  rw [valueDot_apply, valueDot_apply]
  refine congrArg₂ (· + ·) ?_ ?_ <;> exact Finset.sum_congr rfl fun j _ => by rw [heads_apply]

theorem reduces_first : Shape.Reduces S8x2048x2048 [0] S2048x2048 := by decide

/-- The average of the coordinates, at an index. -/
theorem shift_apply (m : IVec S2048x2048 1) (q k : FVec Ideal S2048x128 .f32) (b : FVec Ideal S2048x8 .f32)
    (c : FVec Ideal S2048x3 .f32) (i : Fin 2048) (n : Fin 3) :
    shift m q k b c (ix2 i n)
      = ∑ j : Fin 2048, Ideal.div (∑ h : Fin 8, softmax (masked m (logits q k b)) (ix3 h i j)) (Ideal.ofBits .f32 0x41000000#32)
          * c (ix2 j n) := by
  unfold shift
  refine (StackMember.dotGeneral_plain_apply none _ c i n).trans (Finset.sum_congr rfl fun j _ => congrArg (· * c (ix2 j n)) ?_)
  show Ideal.div (Ideal.hostReduceAdd reducesTo_S8x2048x2048_S2048x2048_d0 _ (Ideal.ofBits .f32 0x00000000#32) (ix2 i j))
    (Ideal.ofBits .f32 0x41000000#32) = _
  rw [Ideal.hostReduceAdd_single _ reduces_first, Ideal.ofBits_zero_f32, zero_add]
  refine congrArg (Ideal.div · _) (Finset.sum_congr rfl fun h _ => ?_)
  exact congrArg (softmax (masked m (logits q k b)))
    (funext fun a => Fin.ext (match a with | ⟨0, _⟩ => rfl | ⟨1, _⟩ => rfl | ⟨2, _⟩ => rfl))

/-- The gate, at a row. -/
theorem gate_apply (h : FVec Ideal S2048x128 .f32) (w : FVec Ideal S128x1 .f32) (i : Fin 2048) :
    gate h w (ix2 i 0) = Ideal.tanh (∑ k : Fin 128, h (ix2 i k) * w (ix2 k 0)) :=
  congrArg Ideal.tanh (StackMember.dotGeneral_plain_apply none h w i 0)

/-- The projections, at an index. -/
theorem proj_apply (h : FVec Ideal S2048x128 .f32) (w : FVec Ideal S128x128 .f32) (i : Fin 2048) (j : Fin 128) :
    proj h w (ix2 i j) = ∑ k : Fin 128, h (ix2 i k) * w (ix2 k j) :=
  StackMember.dotGeneral_plain_apply none h w i j

end Cert.ReferenceIdeal.Net
-- ==== Proof.Layer.lean ====
/-
  One layer: the kernel's layer and the reference's compute the same features and the same coordinates, from the same
  features, coordinates, masks and weights.
-/
module

public import proofs.«01_k».proof.Proof.KApply
public import proofs.«01_k».proof.Proof.RApply

@[expose] public section

noncomputable section

namespace Cert.Layer

open Idealize.ShloMosaic Idealize.ShloMosaic.ValueIdx Cert.KernelIdeal Cert.Scalars Cert.Parts

/-! ## Literals -/

theorem ofBits_16 : Ideal.ofBits .f32 0x41800000#32 = ((16 : ℝ) : EReal) := by
  simp [Ideal.ofBits, Ideal.ieee]
  rw [← EReal.coe_mul]; norm_num

theorem ofBits_8 : Ideal.ofBits .f32 0x41000000#32 = ((8 : ℝ) : EReal) := by
  simp [Ideal.ofBits, Ideal.ieee]
  rw [← EReal.coe_mul]; norm_num

theorem ofBits_eighth : Ideal.ofBits .f32 0x3E000000#32 = ((8⁻¹ : ℝ) : EReal) := by
  simp [Ideal.ofBits, Ideal.ieee]
  rw [← EReal.coe_mul]; norm_num

/-- The small constant under the root is a positive real. -/
theorem ofBits_eps : ∃ e : ℝ, 0 < e ∧ Ideal.ofBits .f32 0x3727C5AC#32 = (e : EReal) := by
  refine ⟨2748779 / 274877906944, by positivity, ?_⟩
  simp [Ideal.ofBits, Ideal.ieee]
  rw [← EReal.coe_mul]; norm_num

/-- The root of sixteen is four. -/
theorem sqrt_16 : Ideal.sqrt (Ideal.ofBits .f32 0x41800000#32) = ((4 : ℝ) : EReal) := by
  rw [ofBits_16]
  show (if (16 : ℝ) < 0 then (⊥ : EReal) else ((Real.sqrt 16 : ℝ) : EReal)) = _
  rw [if_neg (by norm_num), show (16 : ℝ) = 4 ^ 2 by norm_num, Real.sqrt_sq (by norm_num)]

/-- Division by a real other than zero is multiplication by its inverse. -/
theorem div_coe (x : EReal) (r : ℝ) (hr : r ≠ 0) : Ideal.div x (r : EReal) = x * ((r⁻¹ : ℝ) : EReal) := by
  unfold Ideal.div
  rw [if_neg (by exact_mod_cast hr), EReal.coe_inv]

/-! ## Weights that agree -/

/-- The kernel's weights of a layer and the reference's hold the same values. -/
structure Same (k : KernelIdeal.Net.Weights Ideal) (r : ReferenceIdeal.Net.Weights Ideal) : Prop where
  wq : k.wq = r.wq
  wk : k.wk = r.wk
  wv : k.wv = r.wv
  wo : k.wo = r.wo
  wr : k.wr = r.wr
  br : ∀ j, k.br (ix2 0 j) = r.br (ix1 j)
  wg : ∀ j, k.wg (ix2 0 j) = r.wg (ix2 j 0)
  w1 : k.w1 = r.w1
  b1 : ∀ j, k.b1 (ix2 0 j) = r.b1 (ix1 j)
  w2 : k.w2 = r.w2
  b2 : ∀ j, k.b2 (ix2 0 j) = r.b2 (ix1 j)
  s1 : ∀ j, k.s1 (ix2 0 j) = r.s1 (ix1 j)
  o1 : ∀ j, k.o1 (ix2 0 j) = r.o1 (ix1 j)
  s2 : ∀ j, k.s2 (ix2 0 j) = r.s2 (ix1 j)
  o2 : ∀ j, k.o2 (ix2 0 j) = r.o2 (ix1 j)

/-- The weights that make a layer's values are reals. -/
structure Finite (r : ReferenceIdeal.Net.Weights Ideal) : Prop where
  wv : ∀ i j, ∃ x : ℝ, r.wv (ix2 i j) = x
  s1 : ∀ j, ∃ x : ℝ, r.s1 (ix1 j) = x
  o1 : ∀ j, ∃ x : ℝ, r.o1 (ix1 j) = x

/-! ## Attention -/

/-- The kernel's queries are the reference's, divided by four. -/
theorem query_apply (h : FVec Ideal S2048x128 .f32) (w : FVec Ideal S128x128 .f32) (i : Fin 2048) (j : Fin 128) :
    KernelIdeal.Net.query h w (ix2 i j) = ReferenceIdeal.Net.proj h w (ix2 i j) * ((4⁻¹ : ℝ) : EReal) := by
  unfold KernelIdeal.Net.query
  rw [proj_eq]
  show _ * Ideal.div (Ideal.ofBits .f32 0x3F800000#32) (Ideal.sqrt (Ideal.ofBits .f32 0x41800000#32)) = _
  rw [sqrt_16, ofBits_one, div_coe _ _ (by norm_num), one_mul]

/-- The logits agree: the division by four is taken before the sum or after it. -/
theorem logits_eq (h : FVec Ideal S2048x128 .f32) (w : FVec Ideal S128x128 .f32) (k : FVec Ideal S2048x128 .f32)
    (b : FVec Ideal S2048x8 .f32) (t : Fin 4) (a : Fin 8) (i : Fin 512) (j : Fin 2048) :
    KernelIdeal.Net.logits (KernelIdeal.Net.query h w) k b t a (ix2 i j)
      = ReferenceIdeal.Net.logits (ReferenceIdeal.Net.proj h w) k b (ix3 a (rowOf t i) j) := by
  rw [KernelIdeal.Net.logits_apply, ReferenceIdeal.Net.logits_apply, sqrt_16, div_coe _ _ (by norm_num),
    ← sum_mul_coe _ _ _ (by norm_num)]
  exact congrArg (· + b (ix2 j a)) (Finset.sum_congr rfl fun d _ => by rw [query_apply, mul_right_comm])

variable {ec : FVec Ideal S2048x1 .f32} {er : FVec Ideal S1x2048 .f32} {m : IVec ReferenceIdeal.S2048x2048 1}

/-- The attention inside a block agrees. -/
theorem inner_eq (hm : ∀ i j, Ideal.cmp .oeq (ec (ix2 i 0)) (er (ix2 0 j)) = m (ix2 i j))
    (h : FVec Ideal S2048x128 .f32) (w : FVec Ideal S128x128 .f32) (k : FVec Ideal S2048x128 .f32)
    (b : FVec Ideal S2048x8 .f32) (t : Fin 4) (a : Fin 8) (i : Fin 512) (j : Fin 2048) :
    KernelIdeal.Net.inner ec er (KernelIdeal.Net.query h w) k b t a (ix2 i j)
      = ReferenceIdeal.Net.softmax (ReferenceIdeal.Net.masked m (ReferenceIdeal.Net.logits (ReferenceIdeal.Net.proj h w) k b))
          (ix3 a (rowOf t i) j) := by
  unfold KernelIdeal.Net.inner
  rw [KernelIdeal.Net.softmax_apply, ReferenceIdeal.Net.softmax_apply]
  refine congrArg (soft · j) (funext fun l => ?_)
  rw [select_apply, ReferenceIdeal.Net.masked_apply, KernelIdeal.Net.mask_apply, hm, logits_eq]
  rfl

/-- A choice on a negated bit is the choice on the bit, the other way about. -/
theorem select_not {α : Type} (c : BitVec 1) (x y : α) : Scalar.select (~~~c) x y = Scalar.select c y x := by
  rcases (by revert c; decide : c = 0#1 ∨ c = 1#1) with rfl | rfl <;> rfl

/-- The attention outside a block agrees. -/
theorem outer_eq (hm : ∀ i j, Ideal.cmp .oeq (ec (ix2 i 0)) (er (ix2 0 j)) = m (ix2 i j))
    (h : FVec Ideal S2048x128 .f32) (w : FVec Ideal S128x128 .f32) (k : FVec Ideal S2048x128 .f32)
    (b : FVec Ideal S2048x8 .f32) (t : Fin 4) (a : Fin 8) (i : Fin 512) (j : Fin 2048) :
    KernelIdeal.Net.outer ec er (KernelIdeal.Net.query h w) k b t a (ix2 i j)
      = ReferenceIdeal.Net.softmax (ReferenceIdeal.Net.masked (noti m) (ReferenceIdeal.Net.logits (ReferenceIdeal.Net.proj h w) k b))
          (ix3 a (rowOf t i) j) := by
  unfold KernelIdeal.Net.outer
  rw [KernelIdeal.Net.softmax_apply, ReferenceIdeal.Net.softmax_apply]
  refine congrArg (soft · j) (funext fun l => ?_)
  rw [select_apply, ReferenceIdeal.Net.masked_apply, KernelIdeal.Net.mask_apply, hm, logits_eq]
  exact (select_not _ _ _).symm

/-- The attention of a layer agrees where its values are reals. -/
theorem attn_eq (hm : ∀ i j, Ideal.cmp .oeq (ec (ix2 i 0)) (er (ix2 0 j)) = m (ix2 i j))
    (h : FVec Ideal S2048x128 .f32) (w : FVec Ideal S128x128 .f32) (k v : FVec Ideal S2048x128 .f32)
    (b : FVec Ideal S2048x8 .f32) (hv : ∀ i j, ∃ x : ℝ, v (ix2 i j) = x) :
    KernelIdeal.Net.attn ec er (KernelIdeal.Net.query h w) k v b
      = ReferenceIdeal.Net.attn m (ReferenceIdeal.Net.proj h w) k v b := by
  refine ext2 fun i c => ?_
  obtain ⟨t, i, rfl⟩ := exists_row i
  obtain ⟨a, d, rfl⟩ := exists_col c
  rw [KernelIdeal.Net.attn_apply, KernelIdeal.Net.tile_apply, KernelIdeal.Net.head_apply, ReferenceIdeal.Net.attn_apply,
    ← Finset.sum_add_distrib]
  refine Finset.sum_congr rfl fun j _ => ?_
  obtain ⟨x, hx⟩ := hv j (col a d)
  rw [inner_eq hm, outer_eq hm, hx]
  refine add_mul_coe ?_ ?_ x <;> rw [ReferenceIdeal.Net.softmax_apply] <;> exact soft_ne_top _ _

/-- Column `n` of three among the eight of the widened coordinates. -/
abbrev wide (n : Fin 3) : Fin 8 := ⟨n.val, by omega⟩

/-- The averages of the coordinates agree: the division by eight is taken after the sum or before it. -/
theorem shift_eq (hm : ∀ i j, Ideal.cmp .oeq (ec (ix2 i 0)) (er (ix2 0 j)) = m (ix2 i j))
    (h : FVec Ideal S2048x128 .f32) (w : FVec Ideal S128x128 .f32) (k : FVec Ideal S2048x128 .f32) (b : FVec Ideal S2048x8 .f32)
    (c : FVec Ideal S2048x8 .f32) (c' : FVec Ideal ReferenceIdeal.S2048x3 .f32) (hc : ∀ i n, c (ix2 i (wide n)) = c' (ix2 i n))
    (i : Fin 2048) (n : Fin 3) :
    KernelIdeal.Net.shift ec er (KernelIdeal.Net.query h w) k b c (ix2 i (wide n))
      = ReferenceIdeal.Net.shift m (ReferenceIdeal.Net.proj h w) k b c' (ix2 i n) := by
  obtain ⟨t, i, rfl⟩ := exists_row i
  rw [KernelIdeal.Net.shift_apply, ReferenceIdeal.Net.shift_apply, ofBits_eighth, ← sum_mul_coe _ _ _ (by norm_num)]
  refine Finset.sum_congr rfl fun j _ => ?_
  rw [ofBits_8, div_coe _ _ (by norm_num), hc, mul_right_comm]
  exact congrArg (· * _ * _) (Finset.sum_congr rfl fun a _ => inner_eq hm h w k b t a i j)

/-! ## The layer -/

/-- A normalized row is real where the scale and the offset are. -/
theorem norm_real (f : FVec Ideal S2048x128 .f32) (s o : FVec Ideal ReferenceIdeal.S128 .f32) (hs : ∀ j, ∃ x : ℝ, s (ix1 j) = x)
    (ho : ∀ j, ∃ x : ℝ, o (ix1 j) = x) (i : Fin 2048) (j : Fin 128) : ∃ x : ℝ, ReferenceIdeal.Net.norm f s o (ix2 i j) = x := by
  obtain ⟨e, he, hE⟩ := ofBits_eps
  obtain ⟨a, ha⟩ := hs j
  obtain ⟨b, hb⟩ := ho j
  obtain ⟨r, hr⟩ := normalized_real (fun k : Fin 128 => ReferenceIdeal.Net.centred f (ix2 i k)) e 128 he (by norm_num) j
  refine ⟨r * a + b, ?_⟩
  unfold ReferenceIdeal.Net.norm
  rw [addf_apply, mulf_apply, hostDivf_apply]
  unfold ReferenceIdeal.Net.spread
  rw [inRows (by decide), inRows (by decide), inCols (by decide), ha, hb, EReal.coe_add, EReal.coe_mul, ← hr]
  refine congrArg (· * (a : EReal) + (b : EReal)) (congrArg (Ideal.div _) (congrArg Ideal.sqrt ?_))
  rw [← variance_eq, centred_eq, mean_eq]
  refine congrArg₂ (· + ·) (congrArg₂ Ideal.div ?_ ofBits_128) hE
  unfold ReferenceIdeal.Net.rowSum
  refine (inCol (by decide) _ _ i).trans ?_
  show Ideal.hostReduceAdd _ _ (Ideal.ofBits .f32 0x00000000#32) (ix1 i) = _
  have hR : Shape.Reduces ReferenceIdeal.S2048x128 [1] ReferenceIdeal.S2048 := by decide
  rw [Ideal.hostReduceAdd_single _ hR, Ideal.ofBits_zero_f32, zero_add]
  refine Finset.sum_congr rfl fun k _ => ?_
  have hk : hR.lift (ix1 i) k = ix2 i k := funext fun a => Fin.ext (match a with | ⟨0, _⟩ => rfl | ⟨1, _⟩ => rfl)
  rw [hk]; rfl

variable {r r' : FVec Ideal S2048x64 .f32} {kw : KernelIdeal.Net.Weights Ideal} {rw' : ReferenceIdeal.Net.Weights Ideal}

/-- The features after a layer's attention agree. -/
theorem mid_eq (hm : ∀ i j, Ideal.cmp .oeq (ec (ix2 i 0)) (er (ix2 0 j)) = m (ix2 i j)) (hw : Same kw rw') (hf : Finite rw')
    (f : FVec Ideal S2048x128 .f32) : KernelIdeal.Net.mid ec er r kw f = ReferenceIdeal.Net.mid m r rw' f := by
  unfold KernelIdeal.Net.mid ReferenceIdeal.Net.mid
  rw [norm_eq f kw.s1 kw.o1 rw'.s1 rw'.o1 hw.s1 hw.o1, proj_eq, proj_eq, proj_eq, bias_eq r kw.wr kw.br rw'.br hw.br, hw.wq, hw.wk,
    hw.wv, hw.wo, hw.wr, attn_eq hm]
  · intro i j
    rw [ReferenceIdeal.Net.proj_apply]
    refine sum_real _ _ fun k _ => ?_
    obtain ⟨x, hx⟩ := norm_real f rw'.s1 rw'.o1 hf.s1 hf.o1 i k
    obtain ⟨y, hy⟩ := hf.wv k j
    exact ⟨x * y, by rw [hx, hy, EReal.coe_mul]⟩

/-- The features after a layer agree. -/
theorem feat_eq (hm : ∀ i j, Ideal.cmp .oeq (ec (ix2 i 0)) (er (ix2 0 j)) = m (ix2 i j)) (hw : Same kw rw') (hf : Finite rw')
    (f : FVec Ideal S2048x128 .f32) : KernelIdeal.Net.feat ec er r kw f = ReferenceIdeal.Net.feat m r rw' f := by
  unfold KernelIdeal.Net.feat ReferenceIdeal.Net.feat
  rw [mid_eq hm hw hf, norm_eq _ kw.s2 kw.o2 rw'.s2 rw'.o2 hw.s2 hw.o2,
    ffn_eq _ _ kw.w1 kw.b1 kw.w2 kw.b2 rw'.b1 rw'.b2 hw.b1 hw.b2, hw.w1, hw.w2]

/-- The coordinates after a layer agree. -/
theorem coord_eq (hm : ∀ i j, Ideal.cmp .oeq (ec (ix2 i 0)) (er (ix2 0 j)) = m (ix2 i j)) (hw : Same kw rw')
    (f : FVec Ideal S2048x128 .f32) (c : FVec Ideal S2048x8 .f32) (c' : FVec Ideal ReferenceIdeal.S2048x3 .f32)
    (hc : ∀ i n, c (ix2 i (wide n)) = c' (ix2 i n)) (i : Fin 2048) (n : Fin 3) :
    KernelIdeal.Net.coord ec er r kw f c (ix2 i (wide n)) = ReferenceIdeal.Net.coord m r rw' f c' (ix2 i n) := by
  unfold KernelIdeal.Net.coord ReferenceIdeal.Net.coord
  rw [norm_eq f kw.s1 kw.o1 rw'.s1 rw'.o1 hw.s1 hw.o1, proj_eq, bias_eq r kw.wr kw.br rw'.br hw.br, hw.wq, hw.wk, hw.wr]
  rw [addf_apply, addf_apply, mulf_apply, mulf_apply, hc, shift_eq hm _ _ _ _ c c' hc]
  refine congrArg (c' (ix2 i n) + · * _) ?_
  refine (toCols (by decide) _ _ i (wide n)).trans (Eq.trans ?_ (inCols (by decide) _ _ i n).symm)
  rw [KernelIdeal.Net.gate_apply, ReferenceIdeal.Net.gate_apply]
  exact congrArg Ideal.tanh (Finset.sum_congr rfl fun k _ => by rw [hw.wg])

end Cert.Layer
-- ==== Proof.RGeometry.lean ====
/-
  The reference's geometry read at an index: the block of an edge, the distance along it, and its radial basis.
-/
module

public import proofs.«01_k».proof.Proof.RBody
public import proofs.«01_k».proof.Proof.Parts
public import proofs.«01_k».proof.Proof.Layer

@[expose] public section

noncomputable section

namespace Cert.ReferenceIdeal.Net

open Idealize.ShloMosaic Idealize.ShloMosaic.ValueIdx Cert.ReferenceIdeal Cert.ReferenceIdeal.Gen Cert.ReferenceIdeal.Read
open Cert.Scalars Cert.Parts Cert.Layer

/-- A small number written as a word reads back as itself. -/
theorem toInt_small (s : ℕ) (h : s < 512) : (BitVec.ofNat 32 s).toInt = (s : ℤ) := by
  rw [BitVec.toInt_eq_toNat_of_lt] <;> rw [BitVec.toNat_ofNat] <;> omega

/-- The gather of a vector at a row whose index is in range. -/
theorem gather_vec {α : Type} (x : S512.Idx → α) (idx : IVec S2048x1 32) (i : Fin 2048) (s : Fin 512)
    (h : idx (ix2 i 0) = BitVec.ofNat 32 s.val) :
    Host.gather gather_S512_S2048x1_S2048_n_0_n_n_0_1_1 x idx (ix1 i) = x (ix1 s) := by
  unfold Host.gather
  refine congrArg x (funext fun a => Fin.ext ?_)
  obtain rfl : a = 0 := Subsingleton.elim _ _
  show gather_S512_S2048x1_S2048_n_0_n_n_0_1_1.start (ix1 i) idx 0 + gather_S512_S2048x1_S2048_n_0_n_n_0_1_1.batchCoord (ix1 i) 0
    + gather_S512_S2048x1_S2048_n_0_n_n_0_1_1.offCoord (ix1 i) 0 = s.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S512_S2048x1_S2048_n_0_n_n_0_1_1.startIndexMap from List.mem_singleton.mpr rfl)]
  have hsi : gather_S512_S2048x1_S2048_n_0_n_n_0_1_1.siIdx (ix1 i)
      ⟨List.idxOf (0 : Fin 1) gather_S512_S2048x1_S2048_n_0_n_n_0_1_1.startIndexMap,
        List.idxOf_lt_length_iff.2 (List.mem_singleton.mpr rfl)⟩ = ix2 i 0 :=
    funext fun b => Fin.ext (match b with | ⟨0, _⟩ => rfl | ⟨1, _⟩ => rfl)
  rw [hsi, h, toInt_small _ s.isLt]
  show min s.val (512 - 1) + 0 + 0 = s.val
  omega

/-- The gather of a matrix's rows at a row whose index is in range. -/
theorem gather_rows {α : Type} (x : S512x3.Idx → α) (idx : IVec S2048x1 32) (i : Fin 2048) (n : Fin 3) (s : Fin 512)
    (h : idx (ix2 i 0) = BitVec.ofNat 32 s.val) :
    Host.gather gather_S512x3_S2048x1_S2048x3_1_0_n_n_0_1_13 x idx (ix2 i n) = x (ix2 s n) := by
  unfold Host.gather
  refine congrArg x (funext fun a => Fin.ext ?_)
  show gather_S512x3_S2048x1_S2048x3_1_0_n_n_0_1_13.start (ix2 i n) idx a
    + gather_S512x3_S2048x1_S2048x3_1_0_n_n_0_1_13.batchCoord (ix2 i n) a
    + gather_S512x3_S2048x1_S2048x3_1_0_n_n_0_1_13.offCoord (ix2 i n) a = (ix2 s n a).val
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S512x3_S2048x1_S2048x3_1_0_n_n_0_1_13.startIndexMap from List.mem_singleton.mpr rfl)]
    have hsi : gather_S512x3_S2048x1_S2048x3_1_0_n_n_0_1_13.siIdx (ix2 i n)
        ⟨List.idxOf (⟨0, by decide⟩ : Fin 2) gather_S512x3_S2048x1_S2048x3_1_0_n_n_0_1_13.startIndexMap,
          List.idxOf_lt_length_iff.2 (List.mem_singleton.mpr rfl)⟩ = ix2 i 0 :=
      funext fun b => Fin.ext (match b with | ⟨0, _⟩ => rfl | ⟨1, _⟩ => rfl)
    rw [hsi, h, toInt_small _ s.isLt]
    show min s.val (512 - 1) + 0 + 0 = s.val
    omega
  | ⟨1, _⟩ =>
    have e : gather_S512x3_S2048x1_S2048x3_1_0_n_n_0_1_13.start (ix2 i n) idx ⟨1, by decide⟩ = 0 := by
      unfold GatherDims.start
      rw [dif_neg (by decide)]
    rw [e]
    show 0 + 0 + n.val = n.val
    omega

/-- A number below 512 is not negative as a word. -/
theorem slt_small (s : ℕ) (h : s < 512) : IntOp.cmpi .slt (BitVec.ofNat 32 s) 0#32 = 0#1 := by
  show BitVec.ofBool (BitVec.slt _ _) = 0#1
  rw [BitVec.slt, toInt_small _ h]
  exact congrArg BitVec.ofBool (decide_eq_false (by simp))

/-- The first row of the edge list, as the index of a gather. -/
theorem src_apply (x2 : IVec S2x2048 32) (i : Fin 2048) (s : Fin 512) (h : x2 (ix2 0 i) = BitVec.ofNat 32 s.val) :
    val_main_v9 (F := Ideal) x2 (ix2 i 0) = BitVec.ofNat 32 s.val := by
  have e : val_main_v1 (F := Ideal) x2 (ix1 i) = BitVec.ofNat 32 s.val := by
    rw [val_main_v1_apply, val_main_v0_apply]
    have ei : idx_main_v0 (idx_main_v1 (ix1 i)) = ix2 0 i :=
      funext fun a => Fin.ext (match a with | ⟨0, _⟩ => rfl | ⟨1, _⟩ => Nat.mod_eq_of_lt i.isLt)
    rw [ei, h]
  refine (inCol (by decide) _ _ i).trans ?_
  show Scalar.select (IntOp.cmpi .slt (val_main_v1 (F := Ideal) x2 (ix1 i)) 0#32) _ (val_main_v1 (F := Ideal) x2 (ix1 i)) = _
  rw [e, slt_small _ s.isLt]; rfl

/-- The second row of the edge list, as the index of a gather. -/
theorem dst_apply (x2 : IVec S2x2048 32) (i : Fin 2048) (s : Fin 512) (h : x2 (ix2 1 i) = BitVec.ofNat 32 s.val) :
    val_main_v29 (F := Ideal) x2 (ix2 i 0) = BitVec.ofNat 32 s.val := by
  have e : val_main_v3 (F := Ideal) x2 (ix1 i) = BitVec.ofNat 32 s.val := by
    rw [val_main_v3_apply, val_main_v2_apply]
    have ei : idx_main_v2 (idx_main_v3 (ix1 i)) = ix2 1 i :=
      funext fun a => Fin.ext (match a with | ⟨0, _⟩ => rfl | ⟨1, _⟩ => Nat.mod_eq_of_lt i.isLt)
    rw [ei, h]
  refine (inCol (by decide) _ _ i).trans ?_
  show Scalar.select (IntOp.cmpi .slt (val_main_v3 (F := Ideal) x2 (ix1 i)) 0#32) _ (val_main_v3 (F := Ideal) x2 (ix1 i)) = _
  rw [e, slt_small _ s.isLt]; rfl

/-- The block of an edge is its first node's. -/
theorem block_apply (x2 : IVec S2x2048 32) (x4 : IVec S512 32) (i : Fin 2048) (s : Fin 512)
    (h : x2 (ix2 0 i) = BitVec.ofNat 32 s.val) : val_main_v10 (F := Ideal) x2 x4 (ix1 i) = x4 (ix1 s) :=
  gather_vec x4 _ i s (src_apply x2 i s h)

/-- The mask compares the blocks of two edges' first nodes. -/
theorem mask_apply (x2 : IVec S2x2048 32) (x4 : IVec S512 32) (i j : Fin 2048) (s t : Fin 512)
    (hs : x2 (ix2 0 i) = BitVec.ofNat 32 s.val) (ht : x2 (ix2 0 j) = BitVec.ofNat 32 t.val) :
    val_main_v15 (F := Ideal) x2 x4 (ix2 i j) = IntOp.cmpi .eq (x4 (ix1 s)) (x4 (ix1 t)) := by
  rw [← block_apply x2 x4 i s hs, ← block_apply x2 x4 j t ht]
  exact congrArg₂ (IntOp.cmpi .eq) ((inCols (by decide) _ _ i j).trans (inCol (by decide) _ _ i))
    (inRows (by decide) (val_main_v10 (F := Ideal) x2 x4) _ _ i j)

/-- The distance along an edge. -/
theorem dist_apply (x2 : IVec S2x2048 32) (x3 : FVec Ideal S512x3 .f32) (i : Fin 2048) (s t : Fin 512)
    (hs : x2 (ix2 0 i) = BitVec.ofNat 32 s.val) (ht : x2 (ix2 1 i) = BitVec.ofNat 32 t.val) :
    val_main_v36 (F := Ideal) x2 x3 (ix1 i)
      = Ideal.sqrt ((∑ n : Fin 3, (x3 (ix2 s n) - x3 (ix2 t n)) * (x3 (ix2 s n) - x3 (ix2 t n))) + Ideal.ofBits .f32 0x2B8CBCCC#32) := by
  show Ideal.sqrt (val_main_v33 (F := Ideal) x2 x3 (ix1 i) + _) = _
  rw [val_main_v33_apply]
  have e0 : val_main_cst (F := Ideal) (Shape.Idx.first h_S_) = 0 := Ideal.ofBits_zero_f32
  rw [e0, zero_add]
  refine congrArg (fun y => Ideal.sqrt (y + Ideal.ofBits .f32 0x2B8CBCCC#32)) (Finset.sum_congr rfl fun n _ => ?_)
  have hk : idx_main_v33 (ix1 i) n = ix2 i n := funext fun a => Fin.ext (match a with | ⟨0, _⟩ => rfl | ⟨1, _⟩ => rfl)
  rw [hk]
  have e1 : val_main_v23 (F := Ideal) x2 x3 (ix2 i n) = x3 (ix2 s n) := gather_rows x3 _ i n s (src_apply x2 i s hs)
  have e2 : val_main_v30 (F := Ideal) x2 x3 (ix2 i n) = x3 (ix2 t n) := gather_rows x3 _ i n t (dst_apply x2 i t ht)
  rw [← e1, ← e2]; rfl

theorem ofBits_63 : Ideal.ofBits .f32 0x427C0000#32 = ((63 : ℝ) : EReal) := by
  simp [Ideal.ofBits, Ideal.ieee]
  rw [← EReal.coe_mul]; norm_num

theorem ofBits_10 : Ideal.ofBits .f32 0x41200000#32 = ((10 : ℝ) : EReal) := by
  simp [Ideal.ofBits, Ideal.ieee]
  rw [← EReal.coe_mul]; norm_num

/-- The centres of the radial basis are sixty-four equal steps from zero to ten. -/
theorem center_apply (g : Fin 64) : val_main_v37 (F := Ideal) (ix1 g) = (((g.val : ℝ) * (10 / 63) : ℝ) : EReal) := by
  unfold val_main_v37
  by_cases hg : g.val < 63
  · rw [concatenate_pair_apply_left 0 _ _ concatenates_S63_S1_S64_d0 (ix1 g) rfl (ix1 (⟨g.val, hg⟩ : Fin 63))
      (fun a => match a with | ⟨0, _⟩ => rfl)]
    have e4 : val_main_call0_v4 (F := Ideal) (ix1 (⟨g.val, hg⟩ : Fin 63)) = ((g.val : ℝ) : EReal) := by
      show (((BitVec.ofNat 32 g.val).toInt : ℝ) : EReal) = _
      rw [toInt_small _ (by omega)]; norm_num
    have e6 : val_main_call0_v6 (F := Ideal) (ix1 (⟨g.val, hg⟩ : Fin 63)) = (((g.val : ℝ) * 63⁻¹ : ℝ) : EReal) := by
      show Ideal.div (val_main_call0_v4 (F := Ideal) _) (Ideal.ofBits .f32 0x427C0000#32) = _
      rw [e4, ofBits_63, div_coe _ _ (by norm_num), ← EReal.coe_mul]
    show Ideal.ofBits .f32 0x00000000#32 * (Ideal.ofBits .f32 0x3F800000#32 - val_main_call0_v6 (F := Ideal) _)
      + Ideal.ofBits .f32 0x41200000#32 * val_main_call0_v6 (F := Ideal) _ = _
    rw [e6, Ideal.ofBits_zero_f32, zero_mul, zero_add, ofBits_10, ← EReal.coe_mul]
    congr 1; ring
  · have h63 : g.val = 63 := by have := g.isLt; omega
    rw [concatenate_pair_apply_right 0 _ _ concatenates_S63_S1_S64_d0 (ix1 g) rfl rfl (ix1 (0 : Fin 1))
      (fun a => match a with | ⟨0, _⟩ => fun h => absurd rfl h) (by show 0 + 63 = g.val; omega)]
    show Ideal.ofBits .f32 0x41200000#32 = _
    rw [ofBits_10, h63]; congr 1; norm_num

/-- The radial basis at a distance and a centre. -/
def radial (d c : EReal) : EReal :=
  Ideal.exp (Ideal.ofBits .f32 0xBF800000#32 * ((d - c) * (d - c)))
    * (Ideal.ofBits .f32 0x3F000000#32 * (Ideal.cos (Ideal.div (Ideal.ofBits .f32 0x40490FDB#32
      * min (Ideal.ofBits .f32 0x41200000#32) (max (Ideal.ofBits .f32 0x00000000#32) d)) (Ideal.ofBits .f32 0x41200000#32))
      + Ideal.ofBits .f32 0x3F800000#32))

/-- The radial basis of an edge. -/
theorem rbf_apply (x2 : IVec S2x2048 32) (x3 : FVec Ideal S512x3 .f32) (i : Fin 2048) (g : Fin 64) :
    val_main_v59 (F := Ideal) x2 x3 (ix2 i g)
      = radial (val_main_v36 (F := Ideal) x2 x3 (ix1 i)) (val_main_v37 (F := Ideal) (ix1 g)) := by
  have e50 : val_main_v50 (F := Ideal) x2 x3 (ix2 i g) = val_main_v36 (F := Ideal) x2 x3 (ix1 i) :=
    (inCols (by decide) _ _ i g).trans (inCol (by decide) _ _ i)
  have e51 : val_main_v51 (F := Ideal) (ix2 i g) = val_main_v37 (F := Ideal) (ix1 g) :=
    inRows (by decide) (val_main_v37 (F := Ideal)) _ _ i g
  have e58 : val_main_v58 (F := Ideal) x2 x3 (ix2 i g) = val_main_v47 (F := Ideal) x2 x3 (ix1 i) :=
    (inCols (by decide) _ _ i g).trans (inCol (by decide) _ _ i)
  show Ideal.exp (_ * ((val_main_v50 (F := Ideal) x2 x3 (ix2 i g) - val_main_v51 (F := Ideal) (ix2 i g))
    * (val_main_v50 (F := Ideal) x2 x3 (ix2 i g) - val_main_v51 (F := Ideal) (ix2 i g)))) * val_main_v58 (F := Ideal) x2 x3 (ix2 i g) = _
  rw [e50, e51, e58]; rfl

end Cert.ReferenceIdeal.Net
-- ==== Proof.KGeometry.lean ====
/-
  The kernel's geometry read at an index: a one-hot row picks the entry of its index, the distance along an edge, and the
  radial basis of an edge.
-/
module

public import proofs.«01_k».proof.Proof.KBody
public import proofs.«01_k».proof.Proof.Layer
public import proofs.«01_k».proof.Proof.RGeometry

@[expose] public section

noncomputable section

namespace Cert.KernelIdeal.Net

open Idealize.ShloMosaic Idealize.ShloMosaic.ValueIdx Cert.KernelIdeal Cert.KernelIdeal.Gen
open Cert.Scalars Cert.Layer

/-- The one-hot entry of an index: one at the index, zero elsewhere. -/
theorem oneHot_apply (v : Vec Ideal S2048x1 .i32) (i : Fin 2048) (n s : Fin 512) (h : v (ix2 i 0) = BitVec.ofNat 32 s.val) :
    k0_pay1 (F := Ideal) v (ix2 i n) = if n = s then (1 : EReal) else 0 := by
  have e : k0_pay1 (F := Ideal) v (ix2 i n)
      = ((((IntOp.cmpi .eq (v (ix2 i 0)) (BitVec.ofNat 32 n.val)).setWidth 32).toInt : ℝ) : EReal) := by
    unfold k0_pay1
    rw [shapeCast_self]
    show ((((IntOp.cmpi .eq (broadcastTo S2048x512 v _ (ix2 i n)) (iota .tc S2048x512 32 [1] _ (ix2 i n))).setWidth 32).toInt : ℝ) : EReal) = _
    rw [iota_single_apply, Cert.Parts.toCols (by decide)]
  rw [e, h]
  by_cases hn : n = s
  · subst hn
    rw [if_pos rfl]
    have : IntOp.cmpi .eq (BitVec.ofNat 32 n.val) (BitVec.ofNat 32 n.val) = 1#1 := by
      show BitVec.ofBool (_ == _) = _
      simp
    rw [this]; norm_num
  · rw [if_neg hn]
    have : IntOp.cmpi .eq (BitVec.ofNat 32 s.val) (BitVec.ofNat 32 n.val) = 0#1 := by
      show BitVec.ofBool (_ == _) = _
      rw [beq_eq_false_iff_ne.mpr]; · rfl
      intro hc
      apply hn
      have h2 := congrArg BitVec.toNat hc
      rw [BitVec.toNat_ofNat, BitVec.toNat_ofNat] at h2
      have := n.isLt; have := s.isLt
      exact Fin.ext (by omega)
    rw [this]; norm_num

/-- A sum against a one-hot row is the entry it picks. -/
theorem oneHot_sum (v : Vec Ideal S2048x1 .i32) (i : Fin 2048) (s : Fin 512) (h : v (ix2 i 0) = BitVec.ofNat 32 s.val)
    (f : Fin 512 → EReal) : ∑ n : Fin 512, k0_pay1 (F := Ideal) v (ix2 i n) * f n = f s := by
  rw [Finset.sum_eq_single s]
  · rw [oneHot_apply v i s s h, if_pos rfl, one_mul]
  · intro n _ hn; rw [oneHot_apply v i n s h, if_neg hn, zero_mul]
  · intro hs; exact absurd (Finset.mem_univ s) hs

/-- The same with the one-hot row on the right. -/
theorem oneHot_sum' (v : Vec Ideal S2048x1 .i32) (i : Fin 2048) (s : Fin 512) (h : v (ix2 i 0) = BitVec.ofNat 32 s.val)
    (f : Fin 512 → EReal) : ∑ n : Fin 512, f n * k0_pay1 (F := Ideal) v (ix2 i n) = f s := by
  rw [← oneHot_sum v i s h f]
  exact Finset.sum_congr rfl fun n _ => mul_comm _ _

/-- The column of blocks. -/
theorem blockCol_apply (v : Vec Ideal S2048x1 .i32) (x : FVec Ideal S512x1 .f32) (i : Fin 2048) (s : Fin 512)
    (h : v (ix2 i 0) = BitVec.ofNat 32 s.val) : k0_pay2 (F := Ideal) v x (ix2 i 0) = x (ix2 s 0) := by
  unfold k0_pay2
  rw [shapeCast_self]
  refine (plain_apply _ rfl _ _ _ i 0).trans ?_
  exact oneHot_sum v i s h fun n => x (ix2 n 0)

/-- The row of blocks. -/
theorem blockRow_apply (v : Vec Ideal S2048x1 .i32) (x : FVec Ideal S1x512 .f32) (i : Fin 2048) (s : Fin 512)
    (h : v (ix2 i 0) = BitVec.ofNat 32 s.val) : k0_pay3 (F := Ideal) v x (ix2 0 i) = x (ix2 0 s) := by
  unfold k0_pay3
  rw [shapeCast_self]
  refine (turned_apply _ rfl _ _ _ 0 i).trans ?_
  exact oneHot_sum' v i s h fun n => x (ix2 0 n)

/-- The distance along an edge, over the eight padded coordinates. -/
theorem dist_apply (v w : Vec Ideal S2048x1 .i32) (x : FVec Ideal S512x8 .f32) (i : Fin 2048) (s t : Fin 512)
    (hs : v (ix2 i 0) = BitVec.ofNat 32 s.val) (ht : w (ix2 i 0) = BitVec.ofNat 32 t.val) :
    k0_pay4 (F := Ideal) v w x (ix2 i 0)
      = Ideal.sqrt ((∑ n : Fin 8, (x (ix2 s n) - x (ix2 t n)) * (x (ix2 s n) - x (ix2 t n))) + Ideal.ofBits .f32 0x2B8CBCCC#32) := by
  have es : ∀ n, matmul dot_S2048x512_S512x8_S2048x8_1_0_0_1_n_n (some .fp32) (k0_pay1 (F := Ideal) v) x
      (constant S2048x8 .f32 0x00000000#32) (ix2 i n) = x (ix2 s n) := fun n =>
    (plain_apply _ rfl _ _ _ i n).trans (oneHot_sum v i s hs fun k => x (ix2 k n))
  have et : ∀ n, matmul dot_S2048x512_S512x8_S2048x8_1_0_0_1_n_n (some .fp32) (k0_pay1 (F := Ideal) w) x
      (constant S2048x8 .f32 0x00000000#32) (ix2 i n) = x (ix2 t n) := fun n =>
    (plain_apply _ rfl _ _ _ i n).trans (oneHot_sum w i t ht fun k => x (ix2 k n))
  have e : k0_pay4 (F := Ideal) v w x = sqrt (addf (shapeCast S2048x1 (multiReduction .add [1] S2048
      (mulf (subf (matmul dot_S2048x512_S512x8_S2048x8_1_0_0_1_n_n (some .fp32) (k0_pay1 v) x (constant S2048x8 .f32 0x00000000#32))
          (matmul dot_S2048x512_S512x8_S2048x8_1_0_0_1_n_n (some .fp32) (k0_pay1 w) x (constant S2048x8 .f32 0x00000000#32)))
        (subf (matmul dot_S2048x512_S512x8_S2048x8_1_0_0_1_n_n (some .fp32) (k0_pay1 v) x (constant S2048x8 .f32 0x00000000#32))
          (matmul dot_S2048x512_S512x8_S2048x8_1_0_0_1_n_n (some .fp32) (k0_pay1 w) x (constant S2048x8 .f32 0x00000000#32))))
      0x00000000#32 reduces_S2048x8_S2048 (.inl rfl) rfl) shapeCasts_S2048_S2048x1)
      (broadcast S2048x1 (Scalar.ofBits .f32 0x2B8CBCCC#32))) := by
    unfold k0_pay4
    rw [shapeCast_self x]
    rfl
  rw [e]
  show Ideal.sqrt (shapeCast S2048x1 _ _ (ix2 i 0) + Ideal.ofBits .f32 0x2B8CBCCC#32) = _
  refine congrArg (fun y => Ideal.sqrt (y + Ideal.ofBits .f32 0x2B8CBCCC#32)) ((Cert.Parts.asCol _ _ i).trans ?_)
  refine (Ideal.multiReduction_add_single _ 0x00000000#32 reduces_S2048x8_S2048 (.inl rfl) rfl (ix1 i)).trans ?_
  refine Finset.sum_congr rfl fun (n : Fin 8) _ => ?_
  have hk : reduces_S2048x8_S2048.lift (ix1 i) n = ix2 i n :=
    funext fun a => Fin.ext (match a with | ⟨0, _⟩ => rfl | ⟨1, _⟩ => rfl)
  show (matmul _ _ _ _ _ (reduces_S2048x8_S2048.lift (ix1 i) n) - matmul _ _ _ _ _ (reduces_S2048x8_S2048.lift (ix1 i) n))
    * (matmul _ _ _ _ _ (reduces_S2048x8_S2048.lift (ix1 i) n) - matmul _ _ _ _ _ (reduces_S2048x8_S2048.lift (ix1 i) n)) = _
  rw [hk, es, et]

/-- The centre of each radial basis function. -/
theorem center_apply (g : Fin 64) : k0_pay5 (F := Ideal) (ix2 0 g) = (((g.val : ℝ) * (10 / 63) : ℝ) : EReal) := by
  have en : (Named.named κ "center_step" 0x3E228A29#32 : Ideal .f32) = ((10 / 63 : ℝ) : EReal) :=
    IdealRules.named_const.ideal_named_scalar _ _ _ _ rfl
  unfold k0_pay5
  show (((iota .tc S1x64 32 [1] iota_S1x64_d1_w32 (ix2 0 g)).toInt : ℝ) : EReal) * (Named.named κ "center_step" 0x3E228A29#32 : Ideal .f32) = _
  rw [en, iota_single_apply]
  show (((BitVec.ofNat 32 g.val).toInt : ℝ) : EReal) * _ = _
  rw [Cert.ReferenceIdeal.Net.toInt_small _ (by omega), ← EReal.coe_mul]
  norm_num

/-- The radial basis of an edge at a distance and a centre. -/
theorem rbf_apply (v w : Vec Ideal S2048x1 .i32) (x : FVec Ideal S512x8 .f32) (i : Fin 2048) (g : Fin 64) :
    k0_pay7 (F := Ideal) (k0_pay4 v w x) k0_pay5 (k0_pay6 v w x) (ix2 i g)
      = Cert.ReferenceIdeal.Net.radial (k0_pay4 (F := Ideal) v w x (ix2 i 0)) (k0_pay5 (F := Ideal) (ix2 0 g)) := by
  have e6 : k0_pay6 (F := Ideal) v w x (ix2 i 0) = Ideal.ofBits .f32 0x40490FDB#32
      * min (Ideal.ofBits .f32 0x41200000#32) (max (Ideal.ofBits .f32 0x00000000#32) (k0_pay4 (F := Ideal) v w x (ix2 i 0))) := rfl
  unfold k0_pay7 Cert.ReferenceIdeal.Net.radial
  rw [← e6]
  generalize k0_pay4 (F := Ideal) v w x = d
  generalize k0_pay6 (F := Ideal) v w x = a
  generalize k0_pay5 (F := Ideal) = c
  have ed : broadcastTo S2048x64 d broadcasts_S2048x1_S2048x64 (ix2 i g) = d (ix2 i 0) := Cert.Parts.toCols (by decide) _ _ i g
  have ec : broadcastTo S2048x64 c broadcasts_S1x64_S2048x64 (ix2 i g) = c (ix2 0 g) := Cert.Parts.toRows (by decide) _ _ i g
  rw [← ed, ← ec]
  exact congrArg (Ideal.exp (Ideal.ofBits .f32 0xBF800000#32
    * ((broadcastTo S2048x64 d broadcasts_S2048x1_S2048x64 (ix2 i g) - broadcastTo S2048x64 c broadcasts_S1x64_S2048x64 (ix2 i g))
      * (broadcastTo S2048x64 d broadcasts_S2048x1_S2048x64 (ix2 i g) - broadcastTo S2048x64 c broadcasts_S1x64_S2048x64 (ix2 i g)))) * ·)
    (Cert.Parts.toCols (by decide) _ broadcasts_S2048x1_S2048x64 i g)

/-- The kernel's radial basis is the reference's, of node coordinates padded by zeros. -/
theorem rbf_eq (v w : Vec Ideal S2048x1 .i32) (x : FVec Ideal S512x8 .f32) (x2 : IVec S2x2048 32) (x3 : FVec Ideal S512x3 .f32)
    (s t : Fin 2048 → Fin 512)
    (hv : ∀ i, v (ix2 i 0) = BitVec.ofNat 32 (s i).val) (hw : ∀ i, w (ix2 i 0) = BitVec.ofNat 32 (t i).val)
    (hs : ∀ i, x2 (ix2 0 i) = BitVec.ofNat 32 (s i).val) (ht : ∀ i, x2 (ix2 1 i) = BitVec.ofNat 32 (t i).val)
    (hx : ∀ k (n : Fin 3), x (ix2 k (wide n)) = x3 (ix2 k n)) (hz : ∀ k (n : Fin 8), 3 ≤ n.val → x (ix2 k n) = 0) :
    k0_pay7 (F := Ideal) (k0_pay4 v w x) k0_pay5 (k0_pay6 v w x) = Cert.ReferenceIdeal.Read.val_main_v59 (F := Ideal) x2 x3 := by
  refine Cert.Parts.ext2 fun i g => ?_
  rw [rbf_apply, Cert.ReferenceIdeal.Net.rbf_apply, center_apply, Cert.ReferenceIdeal.Net.center_apply,
    dist_apply v w x i (s i) (t i) (hv i) (hw i), Cert.ReferenceIdeal.Net.dist_apply x2 x3 i (s i) (t i) (hs i) (ht i)]
  have e : (∑ n : Fin 8, (x (ix2 (s i) n) - x (ix2 (t i) n)) * (x (ix2 (s i) n) - x (ix2 (t i) n)))
      = ∑ n : Fin 3, (x3 (ix2 (s i) n) - x3 (ix2 (t i) n)) * (x3 (ix2 (s i) n) - x3 (ix2 (t i) n)) := by
    have z : ∀ n : Fin 8, 3 ≤ n.val → (x (ix2 (s i) n) - x (ix2 (t i) n)) * (x (ix2 (s i) n) - x (ix2 (t i) n)) = 0 := by
      intro n hn
      rw [hz _ _ hn, hz _ _ hn]; simp
    rw [Fin.sum_univ_eight, Fin.sum_univ_three, z 3 (by decide), z 4 (by decide), z 5 (by decide), z 6 (by decide), z 7 (by decide),
      ← hx _ 0, ← hx _ 0, ← hx _ 1, ← hx _ 1, ← hx _ 2, ← hx _ 2]
    simp only [add_zero]
    rfl
  rw [e]

/-- The kernel's comparison of blocks as reals is the reference's comparison of them as words. -/
theorem mask_eq (v : Vec Ideal S2048x1 .i32) (xr : FVec Ideal S1x512 .f32) (xc : FVec Ideal S512x1 .f32) (x2 : IVec S2x2048 32)
    (x4 : IVec S512 32) (s : Fin 2048 → Fin 512)
    (hv : ∀ i, v (ix2 i 0) = BitVec.ofNat 32 (s i).val) (hs : ∀ i, x2 (ix2 0 i) = BitVec.ofNat 32 (s i).val)
    (hr : ∀ k, xr (ix2 0 k) = (((x4 (ix1 k)).toInt : ℝ) : EReal)) (hc : ∀ k, xc (ix2 k 0) = (((x4 (ix1 k)).toInt : ℝ) : EReal))
    (i j : Fin 2048) :
    Ideal.cmp .oeq (k0_pay2 (F := Ideal) v xc (ix2 i 0)) (k0_pay3 (F := Ideal) v xr (ix2 0 j))
      = Cert.ReferenceIdeal.Read.val_main_v15 (F := Ideal) x2 x4 (ix2 i j) := by
  rw [blockCol_apply v xc i (s i) (hv i), blockRow_apply v xr j (s j) (hv j), hc, hr,
    Cert.ReferenceIdeal.Net.mask_apply x2 x4 i j (s i) (s j) (hs i) (hs j)]
  show BitVec.ofBool (decide (_ = _)) = BitVec.ofBool (_ == _)
  refine congrArg BitVec.ofBool ?_
  by_cases hq : x4 (ix1 (s i)) = x4 (ix1 (s j))
  · rw [hq]; simp
  · rw [beq_eq_false_iff_ne.mpr hq]
    refine decide_eq_false fun hh => hq (BitVec.eq_of_toInt_eq ?_)
    exact_mod_cast EReal.coe_injective hh

end Cert.KernelIdeal.Net
-- ==== Proof.Agree.lean ====
/-
  The two programs agree when the kernel's blocks hold what the reference's arguments hold.
-/
module

public import proofs.«01_k».proof.Proof.Layer
public import proofs.«01_k».proof.Proof.KBody
public import proofs.«01_k».proof.Proof.RBody
public import proofs.«01_k».proof.Proof.KGeometry

@[expose] public section

noncomputable section

namespace Cert.Agree

open Idealize.ShloMosaic Idealize.ShloMosaic.ValueIdx Cert.KernelIdeal Cert.KernelIdeal.Gen Cert.Layer

/-! ## A layer's part of a stacked array, read at an entry -/

section Cuts

variable {α : Type} {n d : Nat}

/-- The row of layer `l`, cut from rows stacked along a leading axis with a unit axis between. -/
theorem cut_row (x : (⟨3, ![2, 1, n]⟩ : Shape).Idx → α) (l : Fin 2)
    (h : (⟨3, ![2, 1, n]⟩ : Shape).Slices ![l.val, 0, 0] ⟨3, ![1, 1, n]⟩)
    (g : (⟨3, ![1, 1, n]⟩ : Shape).ShapeCasts ⟨2, ![1, n]⟩) (j : Fin n) :
    shapeCast ⟨2, ![1, n]⟩ (extractStridedSlice ⟨3, ![1, 1, n]⟩ ![l.val, 0, 0] x h) g (ix2 0 j) = x (ix3 l 0 j) := by
  rw [shapeCast_apply _ g (ix2 0 j) (ix3 0 0 j)]
  · refine extractStridedSlice_apply _ x h _ (ix3 l 0 j) fun a => ?_
    match a with
    | ⟨0, _⟩ => rfl
    | ⟨1, _⟩ => rfl
    | ⟨2, _⟩ => exact (Nat.zero_add _).symm
  · rw [Shape.rowMajor_val_three, Shape.rowMajor_val_two]
    show (0 * 1 + 0) * n + j.val = 0 * n + j.val
    omega

/-- The row of layer `l`, cut from the rows of a matrix. -/
theorem cut_vec (x : (⟨2, ![2, n]⟩ : Shape).Idx → α) (l : Fin 2)
    (h : (⟨2, ![2, n]⟩ : Shape).Slices ![l.val, 0] ⟨2, ![1, n]⟩)
    (g : (⟨2, ![1, n]⟩ : Shape).ShapeCasts ⟨1, ![n]⟩) (j : Fin n) :
    shapeCast ⟨1, ![n]⟩ (extractStridedSlice ⟨2, ![1, n]⟩ ![l.val, 0] x h) g (ix1 j) = x (ix2 l j) := by
  rw [shapeCast_apply _ g (ix1 j) (ix2 0 j)]
  · refine extractStridedSlice_apply _ x h _ (ix2 l j) fun a => ?_
    match a with
    | ⟨0, _⟩ => rfl
    | ⟨1, _⟩ => exact (Nat.zero_add _).symm
  · rw [Shape.rowMajor_val_two, Shape.rowMajor_val_one]
    show 0 * n + j.val = j.val
    omega

/-- The matrix of layer `l`, cut from matrices stacked along a leading axis. -/
theorem cut_mat (x : (⟨3, ![2, n, d]⟩ : Shape).Idx → α) (l : Fin 2)
    (h : (⟨3, ![2, n, d]⟩ : Shape).Slices ![l.val, 0, 0] ⟨3, ![1, n, d]⟩)
    (g : (⟨3, ![1, n, d]⟩ : Shape).ShapeCasts ⟨2, ![n, d]⟩) (i : Fin n) (j : Fin d) :
    shapeCast ⟨2, ![n, d]⟩ (extractStridedSlice ⟨3, ![1, n, d]⟩ ![l.val, 0, 0] x h) g (ix2 i j) = x (ix3 l i j) := by
  rw [shapeCast_apply _ g (ix2 i j) (ix3 0 i j)]
  · refine extractStridedSlice_apply _ x h _ (ix3 l i j) fun a => ?_
    match a with
    | ⟨0, _⟩ => rfl
    | ⟨1, _⟩ => exact (Nat.zero_add _).symm
    | ⟨2, _⟩ => exact (Nat.zero_add _).symm
  · rw [Shape.rowMajor_val_three, Shape.rowMajor_val_two]
    show (0 * n + i.val) * d + j.val = i.val * d + j.val
    rw [Nat.zero_mul, Nat.zero_add]

/-- Rows of a matrix restacked with a unit axis between. -/
theorem stack_row (x : (⟨2, ![2, n]⟩ : Shape).Idx → α) (g : (⟨2, ![2, n]⟩ : Shape).ShapeCasts ⟨3, ![2, 1, n]⟩)
    (l : Fin 2) (j : Fin n) : shapeCast ⟨3, ![2, 1, n]⟩ x g (ix3 l 0 j) = x (ix2 l j) := by
  refine shapeCast_apply x g _ _ ?_
  rw [Shape.rowMajor_val_three, Shape.rowMajor_val_two]
  show l.val * n + j.val = (l.val * 1 + 0) * n + j.val
  rw [Nat.mul_one, Nat.add_zero]

/-- Stacked columns laid as stacked rows. -/
theorem stack_col (x : (⟨3, ![2, n, 1]⟩ : Shape).Idx → α) (g : (⟨3, ![2, n, 1]⟩ : Shape).ShapeCasts ⟨3, ![2, 1, n]⟩)
    (l : Fin 2) (j : Fin n) : shapeCast ⟨3, ![2, 1, n]⟩ x g (ix3 l 0 j) = x (ix3 l j 0) := by
  refine shapeCast_apply x g _ _ ?_
  rw [Shape.rowMajor_val_three, Shape.rowMajor_val_three]
  show (l.val * n + j.val) * 1 + 0 = (l.val * 1 + 0) * n + j.val
  rw [Nat.mul_one, Nat.mul_one, Nat.add_zero, Nat.add_zero]

/-- A row of a matrix, taken off as a vector and stood up as a column. -/
theorem edge_col (x : (⟨2, ![2, n]⟩ : Shape).Idx → α) (l : Fin 2)
    (h : (⟨2, ![2, n]⟩ : Shape).Slices ![l.val, 0] ⟨2, ![1, n]⟩)
    (g : (⟨2, ![1, n]⟩ : Shape).ShapeCasts ⟨1, ![n]⟩) (g' : (⟨1, ![n]⟩ : Shape).ShapeCasts ⟨2, ![n, 1]⟩) (i : Fin n) :
    shapeCast ⟨2, ![n, 1]⟩ (shapeCast ⟨1, ![n]⟩ (extractStridedSlice ⟨2, ![1, n]⟩ ![l.val, 0] x h) g) g' (ix2 i 0)
      = x (ix2 l i) := by
  rw [shapeCast_apply _ g' (ix2 i 0) (ix1 i), cut_vec]
  rw [Shape.rowMajor_val_one, Shape.rowMajor_val_two]
  show i.val = i.val * 1 + 0
  omega

/-- A vector laid as a row. -/
theorem lay_row (x : (⟨1, ![n]⟩ : Shape).Idx → α) (g : (⟨1, ![n]⟩ : Shape).ShapeCasts ⟨2, ![1, n]⟩) (k : Fin n) :
    shapeCast ⟨2, ![1, n]⟩ x g (ix2 0 k) = x (ix1 k) := by
  refine shapeCast_apply x g _ _ ?_
  rw [Shape.rowMajor_val_one, Shape.rowMajor_val_two]
  show k.val = 0 * n + k.val
  omega

/-- A vector stood up as a column. -/
theorem lay_col (x : (⟨1, ![n]⟩ : Shape).Idx → α) (g : (⟨1, ![n]⟩ : Shape).ShapeCasts ⟨2, ![n, 1]⟩) (k : Fin n) :
    shapeCast ⟨2, ![n, 1]⟩ x g (ix2 k 0) = x (ix1 k) := by
  refine shapeCast_apply x g _ _ ?_
  rw [Shape.rowMajor_val_one, Shape.rowMajor_val_two]
  show k.val = k.val * 1 + 0
  omega

/-- A matrix of three columns widened to eight, at its own columns. -/
theorem widen_in (x : (⟨2, ![n, 3]⟩ : Shape).Idx → α) {u : Shape} (v : u.Idx → α) (hu : 0 < u.numel)
    (h : (⟨2, ![n, 3]⟩ : Shape).Pads ![0, 0] ![0, 5] ![0, 0] ⟨2, ![n, 8]⟩) (k : Fin n) (c : Fin 3) :
    pad ⟨2, ![n, 8]⟩ ![0, 0] ![0, 5] ![0, 0] x v h hu (ix2 k (wide c)) = x (ix2 k c) := by
  refine pad_apply_of_inside _ _ _ x v h hu _ (ix2 k c) fun a => ?_
  match a with
  | ⟨0, _⟩ => show k.val = 0 + k.val * (0 + 1); omega
  | ⟨1, _⟩ => show c.val = 0 + c.val * (0 + 1); omega

/-- A matrix of three columns widened to eight, at the columns added. -/
theorem widen_out (x : (⟨2, ![n, 3]⟩ : Shape).Idx → α) {u : Shape} (v : u.Idx → α) (hu : 0 < u.numel)
    (h : (⟨2, ![n, 3]⟩ : Shape).Pads ![0, 0] ![0, 5] ![0, 0] ⟨2, ![n, 8]⟩) (k : Fin n) (c : Fin 8) (hc : 3 ≤ c.val) :
    pad ⟨2, ![n, 8]⟩ ![0, 0] ![0, 5] ![0, 0] x v h hu (ix2 k c) = v (Shape.Idx.first hu) := by
  refine pad_apply_of_not_inside _ _ _ x v h hu _ ⟨1, Nat.one_lt_two⟩ fun hn => ?_
  have e : (c.val - 0) / (0 + 1) < 3 := hn.2.2
  omega

end Cuts

/-! ## What the kernel's blocks hold -/

/-- The blocks `b` hold the arguments `a`, laid out as the kernel reads them. -/
structure Fed (b : KernelIdeal.Net.Blocks Ideal) (a : ReferenceIdeal.Net.Args Ideal) : Prop where
  x0 : ∀ i, b.x0 (ix2 i 0) = a.x2 (ix2 0 i)
  x1 : ∀ i, b.x1 (ix2 i 0) = a.x2 (ix2 1 i)
  x2 : ∀ k, b.x2 (ix2 0 k) = (((a.x4 (ix1 k)).toInt : ℝ) : EReal)
  x3 : ∀ k, b.x3 (ix2 k 0) = (((a.x4 (ix1 k)).toInt : ℝ) : EReal)
  x4 : ∀ k (n : Fin 3), b.x4 (ix2 k (wide n)) = a.x3 (ix2 k n)
  pad : ∀ k (n : Fin 8), 3 ≤ n.val → b.x4 (ix2 k n) = 0
  x6 : ∀ i (n : Fin 3), b.x6 (ix2 i (wide n)) = a.x1 (ix2 i n)
  x13 : ∀ l j, b.x13 (ix3 l 0 j) = a.x11 (ix3 l j 0)
  x5 : b.x5 = a.x0
  x7 : b.x7 = a.x5
  x8 : b.x8 = a.x6
  x9 : b.x9 = a.x7
  x10 : b.x10 = a.x8
  x11 : b.x11 = a.x9
  x14 : b.x14 = a.x12
  x16 : b.x16 = a.x14
  x12 : ∀ l j, b.x12 (ix3 l 0 j) = a.x10 (ix2 l j)
  x15 : ∀ l j, b.x15 (ix3 l 0 j) = a.x13 (ix2 l j)
  x17 : ∀ l j, b.x17 (ix3 l 0 j) = a.x15 (ix2 l j)
  x18 : ∀ l j, b.x18 (ix3 l 0 j) = a.x16 (ix2 l j)
  x19 : ∀ l j, b.x19 (ix3 l 0 j) = a.x17 (ix2 l j)
  x20 : ∀ l j, b.x20 (ix3 l 0 j) = a.x18 (ix2 l j)
  x21 : ∀ l j, b.x21 (ix3 l 0 j) = a.x19 (ix2 l j)

variable {b : KernelIdeal.Net.Blocks Ideal} {a : ReferenceIdeal.Net.Args Ideal}

/-- The starts of a whole matrix. -/
theorem at2 : (![0, 0] : Fin 2 → Nat) = fun _ => 0 := funext fun a => match a with | ⟨0, _⟩ => rfl | ⟨1, _⟩ => rfl
/-- The starts of a whole stack. -/
theorem at3 : (![0, 0, 0] : Fin 3 → Nat) = fun _ => 0 :=
  funext fun a => match a with | ⟨0, _⟩ => rfl | ⟨1, _⟩ => rfl | ⟨2, _⟩ => rfl

/-- The kernel's weights are cut from its blocks as they stand. -/
theorem w_eq (b : KernelIdeal.Net.Blocks Ideal) (l : Fin 2) :
    b.w l = KernelIdeal.Net.weights l b.x7 b.x8 b.x9 b.x10 b.x11 b.x12 b.x13 b.x14 b.x15 b.x16 b.x17 b.x18 b.x19 b.x20 b.x21 := by
  unfold KernelIdeal.Net.Blocks.w k0_pay8 k0_pay9 k0_pay10 k0_pay11 k0_pay12 k0_pay13 k0_pay14 k0_pay15
  rw [shapeCast_self, shapeCast_self, shapeCast_self, shapeCast_self, shapeCast_self, shapeCast_self, shapeCast_self, shapeCast_self]
  rw [View.ld_unit_zero (S := S2x128x128) at3 _ b.x7, View.ld_unit_zero (S := S2x128x128) at3 _ b.x8,
    View.ld_unit_zero (S := S2x128x128) at3 _ b.x9, View.ld_unit_zero (S := S2x128x128) at3 _ b.x10,
    View.ld_unit_zero (S := S2x64x8) at3 _ b.x11, View.ld_unit_zero (S := S2x1x8) at3 _ b.x12,
    View.ld_unit_zero (S := S2x1x128) at3 _ b.x13, View.ld_unit_zero (S := S2x128x512) at3 _ b.x14,
    View.ld_unit_zero (S := S2x1x512) at3 _ b.x15, View.ld_unit_zero (S := S2x512x128) at3 _ b.x16,
    View.ld_unit_zero (S := S2x1x128) at3 _ b.x17, View.ld_unit_zero (S := S2x1x128) at3 _ b.x18,
    View.ld_unit_zero (S := S2x1x128) at3 _ b.x19, View.ld_unit_zero (S := S2x1x128) at3 _ b.x20,
    View.ld_unit_zero (S := S2x1x128) at3 _ b.x21]

/-- The weights of each layer agree. -/
theorem same (h : Fed b a) (l : Fin 2) : Same (b.w l) (a.w l) := by
  rw [w_eq, h.x7, h.x8, h.x9, h.x10, h.x11, h.x14, h.x16]
  exact
  { wq := rfl
    wk := rfl
    wv := rfl
    wo := rfl
    wr := rfl
    w1 := rfl
    w2 := rfl
    wg := fun j => (cut_row b.x13 l (KernelIdeal.Net.slR128 l) _ j).trans ((h.x13 l j).trans (cut_mat a.x11 l (ReferenceIdeal.Net.slG l) _ j 0).symm)
    br := fun j => (cut_row b.x12 l (KernelIdeal.Net.slR8 l) _ j).trans ((h.x12 l j).trans (cut_vec a.x10 l (ReferenceIdeal.Net.slR8 l) _ j).symm)
    b1 := fun j => (cut_row b.x15 l (KernelIdeal.Net.slR512 l) _ j).trans ((h.x15 l j).trans (cut_vec a.x13 l (ReferenceIdeal.Net.slR512 l) _ j).symm)
    b2 := fun j => (cut_row b.x17 l (KernelIdeal.Net.slR128 l) _ j).trans ((h.x17 l j).trans (cut_vec a.x15 l (ReferenceIdeal.Net.slR128 l) _ j).symm)
    s1 := fun j => (cut_row b.x18 l (KernelIdeal.Net.slR128 l) _ j).trans ((h.x18 l j).trans (cut_vec a.x16 l (ReferenceIdeal.Net.slR128 l) _ j).symm)
    o1 := fun j => (cut_row b.x19 l (KernelIdeal.Net.slR128 l) _ j).trans ((h.x19 l j).trans (cut_vec a.x17 l (ReferenceIdeal.Net.slR128 l) _ j).symm)
    s2 := fun j => (cut_row b.x20 l (KernelIdeal.Net.slR128 l) _ j).trans ((h.x20 l j).trans (cut_vec a.x18 l (ReferenceIdeal.Net.slR128 l) _ j).symm)
    o2 := fun j => (cut_row b.x21 l (KernelIdeal.Net.slR128 l) _ j).trans ((h.x21 l j).trans (cut_vec a.x19 l (ReferenceIdeal.Net.slR128 l) _ j).symm) }

/-- The weights that must be finite are, when the arguments they are cut from are. -/
theorem finite (hs : ∀ l d, ∃ r : ℝ, a.x16 (ix2 l d) = r) (ho : ∀ l d, ∃ r : ℝ, a.x17 (ix2 l d) = r)
    (hv : ∀ l d e, ∃ r : ℝ, a.x7 (ix3 l d e) = r) (l : Fin 2) : Finite (a.w l) where
  wv i j := (hv l i j).imp fun r hr => (cut_mat a.x7 l (ReferenceIdeal.Net.slSq l) _ i j).trans hr
  s1 j := (hs l j).imp fun r hr => (cut_vec a.x16 l (ReferenceIdeal.Net.slR128 l) _ j).trans hr
  o1 j := (ho l j).imp fun r hr => (cut_vec a.x17 l (ReferenceIdeal.Net.slR128 l) _ j).trans hr

section Whole

variable (h : Fed b a) (s t : Fin 2048 → Fin 512)
  (hs : ∀ i, a.x2 (ix2 0 i) = BitVec.ofNat 32 (s i).val) (ht : ∀ i, a.x2 (ix2 1 i) = BitVec.ofNat 32 (t i).val)
  (hf : ∀ l, Finite (a.w l))

include h hs in
/-- The masks agree. -/
theorem mask (i j : Fin 2048) : Ideal.cmp .oeq (b.ec (ix2 i 0)) (b.er (ix2 0 j)) = a.m (ix2 i j) := by
  unfold KernelIdeal.Net.Blocks.ec KernelIdeal.Net.Blocks.er
  rw [View.ld_unit_zero (S := S2048x1) at2 _ b.x0, View.ld_unit_zero (S := S512x1) at2 _ b.x3,
    View.ld_unit_zero (S := S1x512) at2 _ b.x2]
  exact KernelIdeal.Net.mask_eq b.x0 b.x2 b.x3 a.x2 a.x4 s (fun i => (h.x0 i).trans (hs i)) hs h.x2 h.x3 i j

include h hs ht in
/-- The radial bases agree. -/
theorem radial : b.rb = a.r := by
  unfold KernelIdeal.Net.Blocks.rb
  rw [View.ld_unit_zero (S := S2048x1) at2 _ b.x0, View.ld_unit_zero (S := S2048x1) at2 _ b.x1,
    View.ld_unit_zero (S := S512x8) at2 _ b.x4]
  exact KernelIdeal.Net.rbf_eq b.x0 b.x1 b.x4 a.x2 a.x3 s t (fun i => (h.x0 i).trans (hs i)) (fun i => (h.x1 i).trans (ht i))
    hs ht h.x4 h.pad

include h in
/-- The features start equal. -/
theorem start_feat : b.f0 = a.x0 := by
  unfold KernelIdeal.Net.Blocks.f0
  rw [View.ld_unit_zero (S := S2048x128) at2 _ b.x5, h.x5]

include h in
/-- The coordinates start equal. -/
theorem start_coord (i : Fin 2048) (n : Fin 3) : b.c0 (ix2 i (wide n)) = a.x1 (ix2 i n) := by
  unfold KernelIdeal.Net.Blocks.c0 k0_pay16
  rw [shapeCast_self, View.ld_unit_zero (S := S2048x8) at2 _ b.x6, h.x6]

include h hs ht hf in
/-- The features agree after the first layer. -/
theorem first_feat : b.f1 = a.f1 := by
  unfold KernelIdeal.Net.Blocks.f1 ReferenceIdeal.Net.Args.f1
  rw [start_feat h, radial h s t hs ht]
  exact feat_eq (mask h s hs) (same h 0) (hf 0) a.x0

include h hs ht in
/-- The coordinates agree after the first layer. -/
theorem first_coord (i : Fin 2048) (n : Fin 3) : b.c1 (ix2 i (wide n)) = a.c1 (ix2 i n) := by
  unfold KernelIdeal.Net.Blocks.c1 ReferenceIdeal.Net.Args.c1
  rw [start_feat h, radial h s t hs ht]
  exact coord_eq (mask h s hs) (same h 0) a.x0 b.c0 a.x1 (start_coord h) i n

include h hs ht hf in
/-- The features agree after both layers. -/
theorem last_feat : KernelIdeal.Net.feat b.ec b.er b.rb (b.w 1) b.f1 = ReferenceIdeal.Net.feat a.m a.r (a.w 1) a.f1 := by
  rw [first_feat h s t hs ht hf, radial h s t hs ht]
  exact feat_eq (mask h s hs) (same h 1) (hf 1) a.f1

include h hs ht hf in
/-- The coordinates agree after both layers, at the three columns the kernel returns. -/
theorem last_coord : extractStridedSlice S2048x3 ![0, 0] (KernelIdeal.Net.coord b.ec b.er b.rb (b.w 1) b.f1 b.c1) slices_S2048x8_S2048x3_0_0
    = ReferenceIdeal.Net.coord a.m a.r (a.w 1) a.f1 a.c1 := by
  refine Cert.Parts.ext2 fun i n => ?_
  rw [first_feat h s t hs ht hf, radial h s t hs ht]
  refine (extractStridedSlice_apply _ _ _ _ (ix2 i (wide n)) fun a => ?_).trans
    (coord_eq (mask h s hs) (same h 1) a.f1 b.c1 a.c1 (first_coord h s t hs ht) i n)
  match a with
  | ⟨0, _⟩ => exact (Nat.zero_add _).symm
  | ⟨1, _⟩ => exact (Nat.zero_add _).symm

end Whole

end Cert.Agree
-- ==== Proof.KRun.lean ====
/-
  What the kernel leaves in its results, as functions of the arrays it is called with.
-/
module

public import proofs.«01_k».proof.Proof.KBody
public import proofs.«01_k».proof.Proof.Gen.KernelIdeal.Frame
public import Idealize.ShloMosaic.Lib.Claim
public import Idealize.ShloMosaic.Lib.ValueIdx
public import Idealize.ShloMosaic.Lib.Pipeline.ValueKit

@[expose] public section

noncomputable section

namespace Cert.KernelIdeal.Net

open Idealize.ShloMosaic Idealize.ShloMosaic.ValueIdx Cert.KernelIdeal Cert.KernelIdeal.Gen

variable (m : (ℓ : Loc nD τ sig) → Buf (Elt Ideal) ℓ) (ρ : Dev nD → PrngReg) (c : Dev nD)

/-! ## The staged blocks: each window is its whole array -/

/-- Window 0 is its whole array. -/
theorem staged0 : iblk m c 0 t0_0 = V m c main_v2 := by
  funext y
  unfold iblk
  rw [View.read_apply]
  refine congrArg (V m c main_v2) (funext fun a => Fin.ext ?_)
  blk_simp
  show 0 * _ + (y a).val = (y a).val
  rw [Nat.zero_mul, Nat.zero_add]
/-- Window 1 is its whole array. -/
theorem staged1 : iblk m c 1 t0_0 = V m c main_v5 := by
  funext y
  unfold iblk
  rw [View.read_apply]
  refine congrArg (V m c main_v5) (funext fun a => Fin.ext ?_)
  blk_simp
  show 0 * _ + (y a).val = (y a).val
  rw [Nat.zero_mul, Nat.zero_add]
/-- Window 2 is its whole array. -/
theorem staged2 : iblk m c 2 t0_0 = V m c main_v7 := by
  funext y
  unfold iblk
  rw [View.read_apply]
  refine congrArg (V m c main_v7) (funext fun a => Fin.ext ?_)
  blk_simp
  show 0 * _ + (y a).val = (y a).val
  rw [Nat.zero_mul, Nat.zero_add]
/-- Window 3 is its whole array. -/
theorem staged3 : iblk m c 3 t0_0 = V m c main_v9 := by
  funext y
  unfold iblk
  rw [View.read_apply]
  refine congrArg (V m c main_v9) (funext fun a => Fin.ext ?_)
  blk_simp
  show 0 * _ + (y a).val = (y a).val
  rw [Nat.zero_mul, Nat.zero_add]
/-- Window 4 is its whole array. -/
theorem staged4 : iblk m c 4 t0_0 = V m c main_v10 := by
  funext y
  unfold iblk
  rw [View.read_apply]
  refine congrArg (V m c main_v10) (funext fun a => Fin.ext ?_)
  blk_simp
  show 0 * _ + (y a).val = (y a).val
  rw [Nat.zero_mul, Nat.zero_add]
/-- Window 5 is its whole array. -/
theorem staged5 : iblk m c 5 t0_0 = V m c main_arg0 := by
  funext y
  unfold iblk
  rw [View.read_apply]
  refine congrArg (V m c main_arg0) (funext fun a => Fin.ext ?_)
  blk_simp
  show 0 * _ + (y a).val = (y a).val
  rw [Nat.zero_mul, Nat.zero_add]
/-- Window 6 is its whole array. -/
theorem staged6 : iblk m c 6 t0_0 = V m c main_v11 := by
  funext y
  unfold iblk
  rw [View.read_apply]
  refine congrArg (V m c main_v11) (funext fun a => Fin.ext ?_)
  blk_simp
  show 0 * _ + (y a).val = (y a).val
  rw [Nat.zero_mul, Nat.zero_add]
/-- Window 7 is its whole array. -/
theorem staged7 : iblk m c 7 t0_0 = V m c main_arg5 := by
  funext y
  unfold iblk
  rw [View.read_apply]
  refine congrArg (V m c main_arg5) (funext fun a => Fin.ext ?_)
  blk_simp
  show 0 * _ + (y a).val = (y a).val
  rw [Nat.zero_mul, Nat.zero_add]
/-- Window 8 is its whole array. -/
theorem staged8 : iblk m c 8 t0_0 = V m c main_arg6 := by
  funext y
  unfold iblk
  rw [View.read_apply]
  refine congrArg (V m c main_arg6) (funext fun a => Fin.ext ?_)
  blk_simp
  show 0 * _ + (y a).val = (y a).val
  rw [Nat.zero_mul, Nat.zero_add]
/-- Window 9 is its whole array. -/
theorem staged9 : iblk m c 9 t0_0 = V m c main_arg7 := by
  funext y
  unfold iblk
  rw [View.read_apply]
  refine congrArg (V m c main_arg7) (funext fun a => Fin.ext ?_)
  blk_simp
  show 0 * _ + (y a).val = (y a).val
  rw [Nat.zero_mul, Nat.zero_add]
/-- Window 10 is its whole array. -/
theorem staged10 : iblk m c 10 t0_0 = V m c main_arg8 := by
  funext y
  unfold iblk
  rw [View.read_apply]
  refine congrArg (V m c main_arg8) (funext fun a => Fin.ext ?_)
  blk_simp
  show 0 * _ + (y a).val = (y a).val
  rw [Nat.zero_mul, Nat.zero_add]
/-- Window 11 is its whole array. -/
theorem staged11 : iblk m c 11 t0_0 = V m c main_arg9 := by
  funext y
  unfold iblk
  rw [View.read_apply]
  refine congrArg (V m c main_arg9) (funext fun a => Fin.ext ?_)
  blk_simp
  show 0 * _ + (y a).val = (y a).val
  rw [Nat.zero_mul, Nat.zero_add]
/-- Window 12 is its whole array. -/
theorem staged12 : iblk m c 12 t0_0 = V m c main_v12 := by
  funext y
  unfold iblk
  rw [View.read_apply]
  refine congrArg (V m c main_v12) (funext fun a => Fin.ext ?_)
  blk_simp
  show 0 * _ + (y a).val = (y a).val
  rw [Nat.zero_mul, Nat.zero_add]
/-- Window 13 is its whole array. -/
theorem staged13 : iblk m c 13 t0_0 = V m c main_v13 := by
  funext y
  unfold iblk
  rw [View.read_apply]
  refine congrArg (V m c main_v13) (funext fun a => Fin.ext ?_)
  blk_simp
  show 0 * _ + (y a).val = (y a).val
  rw [Nat.zero_mul, Nat.zero_add]
/-- Window 14 is its whole array. -/
theorem staged14 : iblk m c 14 t0_0 = V m c main_arg12 := by
  funext y
  unfold iblk
  rw [View.read_apply]
  refine congrArg (V m c main_arg12) (funext fun a => Fin.ext ?_)
  blk_simp
  show 0 * _ + (y a).val = (y a).val
  rw [Nat.zero_mul, Nat.zero_add]
/-- Window 15 is its whole array. -/
theorem staged15 : iblk m c 15 t0_0 = V m c main_v14 := by
  funext y
  unfold iblk
  rw [View.read_apply]
  refine congrArg (V m c main_v14) (funext fun a => Fin.ext ?_)
  blk_simp
  show 0 * _ + (y a).val = (y a).val
  rw [Nat.zero_mul, Nat.zero_add]
/-- Window 16 is its whole array. -/
theorem staged16 : iblk m c 16 t0_0 = V m c main_arg14 := by
  funext y
  unfold iblk
  rw [View.read_apply]
  refine congrArg (V m c main_arg14) (funext fun a => Fin.ext ?_)
  blk_simp
  show 0 * _ + (y a).val = (y a).val
  rw [Nat.zero_mul, Nat.zero_add]
/-- Window 17 is its whole array. -/
theorem staged17 : iblk m c 17 t0_0 = V m c main_v15 := by
  funext y
  unfold iblk
  rw [View.read_apply]
  refine congrArg (V m c main_v15) (funext fun a => Fin.ext ?_)
  blk_simp
  show 0 * _ + (y a).val = (y a).val
  rw [Nat.zero_mul, Nat.zero_add]
/-- Window 18 is its whole array. -/
theorem staged18 : iblk m c 18 t0_0 = V m c main_v16 := by
  funext y
  unfold iblk
  rw [View.read_apply]
  refine congrArg (V m c main_v16) (funext fun a => Fin.ext ?_)
  blk_simp
  show 0 * _ + (y a).val = (y a).val
  rw [Nat.zero_mul, Nat.zero_add]
/-- Window 19 is its whole array. -/
theorem staged19 : iblk m c 19 t0_0 = V m c main_v17 := by
  funext y
  unfold iblk
  rw [View.read_apply]
  refine congrArg (V m c main_v17) (funext fun a => Fin.ext ?_)
  blk_simp
  show 0 * _ + (y a).val = (y a).val
  rw [Nat.zero_mul, Nat.zero_add]
/-- Window 20 is its whole array. -/
theorem staged20 : iblk m c 20 t0_0 = V m c main_v18 := by
  funext y
  unfold iblk
  rw [View.read_apply]
  refine congrArg (V m c main_v18) (funext fun a => Fin.ext ?_)
  blk_simp
  show 0 * _ + (y a).val = (y a).val
  rw [Nat.zero_mul, Nat.zero_add]
/-- Window 21 is its whole array. -/
theorem staged21 : iblk m c 21 t0_0 = V m c main_v19 := by
  funext y
  unfold iblk
  rw [View.read_apply]
  refine congrArg (V m c main_v19) (funext fun a => Fin.ext ?_)
  blk_simp
  show 0 * _ + (y a).val = (y a).val
  rw [Nat.zero_mul, Nat.zero_add]

/-! ## The arrays at the region's entry -/

/-- What the host code leaves in the array v2 before the call. -/
theorem entry_v2 : V m c main_v2 = shapeCast S2048x1 (shapeCast S2048 (extractStridedSlice S1x2048 ![0, 0] (m ((c.tc : Thread nD τ).loc main_arg2) : IVec S2x2048 32) slices_S2x2048_S1x2048_0_0) shapeCasts_S1x2048_S2048) shapeCasts_S2048_S2048x1 := by
  entry_read
  rfl
/-- What the host code leaves in the array v5 before the call. -/
theorem entry_v5 : V m c main_v5 = shapeCast S2048x1 (shapeCast S2048 (extractStridedSlice S1x2048 ![1, 0] (m ((c.tc : Thread nD τ).loc main_arg2) : IVec S2x2048 32) slices_S2x2048_S1x2048_1_0) shapeCasts_S1x2048_S2048) shapeCasts_S2048_S2048x1 := by
  entry_read
  rfl
/-- What the host code leaves in the array v7 before the call. -/
theorem entry_v7 : V m c main_v7 = shapeCast S1x512 (sitofp (F := Ideal) .f32 (m ((c.tc : Thread nD τ).loc main_arg4) : IVec S512 32)) shapeCasts_S512_S1x512 := by
  entry_read
  rfl
/-- What the host code leaves in the array v9 before the call. -/
theorem entry_v9 : V m c main_v9 = shapeCast S512x1 (sitofp (F := Ideal) .f32 (m ((c.tc : Thread nD τ).loc main_arg4) : IVec S512 32)) shapeCasts_S512_S512x1 := by
  entry_read
  rfl
/-- What the host code leaves in the array v10 before the call. -/
theorem entry_v10 : V m c main_v10 = pad S512x8 ![0, 0] ![0, 5] ![0, 0] (m ((c.tc : Thread nD τ).loc main_arg3) : FVec Ideal S512x3 .f32) (sitofp (F := Ideal) .f32 (constantI S_ 32 0#32)) pads_S512x3_S512x8_000_050 h_S_ := by
  entry_read
  rfl
/-- What the host code leaves in the array v11 before the call. -/
theorem entry_v11 : V m c main_v11 = pad S2048x8 ![0, 0] ![0, 5] ![0, 0] (m ((c.tc : Thread nD τ).loc main_arg1) : FVec Ideal S2048x3 .f32) (sitofp (F := Ideal) .f32 (constantI S_ 32 0#32)) pads_S2048x3_S2048x8_000_050 h_S_ := by
  entry_read
  rfl
/-- What the host code leaves in the array v12 before the call. -/
theorem entry_v12 : V m c main_v12 = shapeCast S2x1x8 (m ((c.tc : Thread nD τ).loc main_arg10) : FVec Ideal S2x8 .f32) shapeCasts_S2x8_S2x1x8 := by
  entry_read
  rfl
/-- What the host code leaves in the array v13 before the call. -/
theorem entry_v13 : V m c main_v13 = shapeCast S2x1x128 (m ((c.tc : Thread nD τ).loc main_arg11) : FVec Ideal S2x128x1 .f32) shapeCasts_S2x128x1_S2x1x128 := by
  entry_read
  rfl
/-- What the host code leaves in the array v14 before the call. -/
theorem entry_v14 : V m c main_v14 = shapeCast S2x1x512 (m ((c.tc : Thread nD τ).loc main_arg13) : FVec Ideal S2x512 .f32) shapeCasts_S2x512_S2x1x512 := by
  entry_read
  rfl
/-- What the host code leaves in the array v15 before the call. -/
theorem entry_v15 : V m c main_v15 = shapeCast S2x1x128 (m ((c.tc : Thread nD τ).loc main_arg15) : FVec Ideal S2x128 .f32) shapeCasts_S2x128_S2x1x128 := by
  entry_read
  rfl
/-- What the host code leaves in the array v16 before the call. -/
theorem entry_v16 : V m c main_v16 = shapeCast S2x1x128 (m ((c.tc : Thread nD τ).loc main_arg16) : FVec Ideal S2x128 .f32) shapeCasts_S2x128_S2x1x128 := by
  entry_read
  rfl
/-- What the host code leaves in the array v17 before the call. -/
theorem entry_v17 : V m c main_v17 = shapeCast S2x1x128 (m ((c.tc : Thread nD τ).loc main_arg17) : FVec Ideal S2x128 .f32) shapeCasts_S2x128_S2x1x128 := by
  entry_read
  rfl
/-- What the host code leaves in the array v18 before the call. -/
theorem entry_v18 : V m c main_v18 = shapeCast S2x1x128 (m ((c.tc : Thread nD τ).loc main_arg18) : FVec Ideal S2x128 .f32) shapeCasts_S2x128_S2x1x128 := by
  entry_read
  rfl
/-- What the host code leaves in the array v19 before the call. -/
theorem entry_v19 : V m c main_v19 = shapeCast S2x1x128 (m ((c.tc : Thread nD τ).loc main_arg19) : FVec Ideal S2x128 .f32) shapeCasts_S2x128_S2x1x128 := by
  entry_read
  rfl

end Cert.KernelIdeal.Net
-- ==== Proof.KResult.lean ====
/-
  What the kernel leaves in its two results, and that it leaves its arguments unchanged.
-/
module

public import proofs.«01_k».proof.Proof.KRun

@[expose] public section

noncomputable section

namespace Cert.KernelIdeal.Net

open Idealize.ShloMosaic Idealize.ShloMosaic.ValueIdx Cert.KernelIdeal Cert.KernelIdeal.Gen

variable (m : (ℓ : Loc nD τ sig) → Buf (Elt Ideal) ℓ) (ρ : Dev nD → PrngReg) (c : Dev nD)

/-- The blocks the one grid point reads. -/
def blocks : Blocks Ideal := ⟨iblk m c 0 t0_0, iblk m c 1 t0_0, iblk m c 2 t0_0, iblk m c 3 t0_0, iblk m c 4 t0_0, iblk m c 5 t0_0, iblk m c 6 t0_0, iblk m c 7 t0_0, iblk m c 8 t0_0, iblk m c 9 t0_0, iblk m c 10 t0_0, iblk m c 11 t0_0, iblk m c 12 t0_0, iblk m c 13 t0_0, iblk m c 14 t0_0, iblk m c 15 t0_0, iblk m c 16 t0_0, iblk m c 17 t0_0, iblk m c 18 t0_0, iblk m c 19 t0_0, iblk m c 20 t0_0, iblk m c 21 t0_0⟩

/-- The first result's array ends as the body leaves its block. -/
theorem left_feat : (dats m 0 c).arrAt 22 cfg0.N = out0_22 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (iblk m c 18 t0_0) (iblk m c 19 t0_0) (iblk m c 20 t0_0) (iblk m c 21 t0_0) := by
  refine (dats m 0 c).arrAt_eq_of_after_last 22 t0_0 (by decide +kernel) _ fun j => ?_
  blk_simp
  rw [after0_22]

/-- The second result's array ends as the body leaves its block. -/
theorem left_coord : (dats m 0 c).arrAt 23 cfg0.N = out0_23 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (iblk m c 18 t0_0) (iblk m c 19 t0_0) (iblk m c 20 t0_0) (iblk m c 21 t0_0) := by
  refine (dats m 0 c).arrAt_eq_of_after_last 23 t0_0 (by decide +kernel) _ fun j => ?_
  blk_simp
  rw [after0_23]

/-- Storing the whole of an array leaves it. -/
theorem stored_feat (x0 : Vec Ideal S2048x1 .i32) (x1 : Vec Ideal S2048x1 .i32) (x2 : Vec Ideal S1x512 .f32) (x3 : Vec Ideal S512x1 .f32) (x4 : Vec Ideal S512x8 .f32) (x5 : Vec Ideal S2048x128 .f32) (x6 : Vec Ideal S2048x8 .f32) (x7 : Vec Ideal S2x128x128 .f32) (x8 : Vec Ideal S2x128x128 .f32) (x9 : Vec Ideal S2x128x128 .f32) (x10 : Vec Ideal S2x128x128 .f32) (x11 : Vec Ideal S2x64x8 .f32) (x12 : Vec Ideal S2x1x8 .f32) (x13 : Vec Ideal S2x1x128 .f32) (x14 : Vec Ideal S2x128x512 .f32) (x15 : Vec Ideal S2x1x512 .f32) (x16 : Vec Ideal S2x512x128 .f32) (x17 : Vec Ideal S2x1x128 .f32) (x18 : Vec Ideal S2x1x128 .f32) (x19 : Vec Ideal S2x1x128 .f32) (x20 : Vec Ideal S2x1x128 .f32) (x21 : Vec Ideal S2x1x128 .f32) (b : Blocks Ideal) (hb : b = ⟨x0, x1, x2, x3, x4, x5, x6, x7, x8, x9, x10, x11, x12, x13, x14, x15, x16, x17, x18, x19, x20, x21⟩) :
    out0_22 x0 x1 x2 x3 x4 x5 x6 x7 x8 x9 x10 x11 x12 x13 x14 x15 x16 x17 x18 x19 x20 x21 = feat b.ec b.er b.rb (b.w 1) b.f1 := by
  subst hb
  exact (Blocks.out_feat ⟨x0, x1, x2, x3, x4, x5, x6, x7, x8, x9, x10, x11, x12, x13, x14, x15, x16, x17, x18, x19, x20, x21⟩).trans (View.canon_unit_zero (funext fun a => match a with | ⟨0, _⟩ => rfl | ⟨1, _⟩ => rfl) _ _)

/-- Storing the whole of an array leaves it. -/
theorem stored_coord (x0 : Vec Ideal S2048x1 .i32) (x1 : Vec Ideal S2048x1 .i32) (x2 : Vec Ideal S1x512 .f32) (x3 : Vec Ideal S512x1 .f32) (x4 : Vec Ideal S512x8 .f32) (x5 : Vec Ideal S2048x128 .f32) (x6 : Vec Ideal S2048x8 .f32) (x7 : Vec Ideal S2x128x128 .f32) (x8 : Vec Ideal S2x128x128 .f32) (x9 : Vec Ideal S2x128x128 .f32) (x10 : Vec Ideal S2x128x128 .f32) (x11 : Vec Ideal S2x64x8 .f32) (x12 : Vec Ideal S2x1x8 .f32) (x13 : Vec Ideal S2x1x128 .f32) (x14 : Vec Ideal S2x128x512 .f32) (x15 : Vec Ideal S2x1x512 .f32) (x16 : Vec Ideal S2x512x128 .f32) (x17 : Vec Ideal S2x1x128 .f32) (x18 : Vec Ideal S2x1x128 .f32) (x19 : Vec Ideal S2x1x128 .f32) (x20 : Vec Ideal S2x1x128 .f32) (x21 : Vec Ideal S2x1x128 .f32) (b : Blocks Ideal) (hb : b = ⟨x0, x1, x2, x3, x4, x5, x6, x7, x8, x9, x10, x11, x12, x13, x14, x15, x16, x17, x18, x19, x20, x21⟩) :
    out0_23 x0 x1 x2 x3 x4 x5 x6 x7 x8 x9 x10 x11 x12 x13 x14 x15 x16 x17 x18 x19 x20 x21 = coord b.ec b.er b.rb (b.w 1) b.f1 b.c1 := by
  subst hb
  exact (Blocks.out_coord ⟨x0, x1, x2, x3, x4, x5, x6, x7, x8, x9, x10, x11, x12, x13, x14, x15, x16, x17, x18, x19, x20, x21⟩).trans (View.canon_unit_zero (funext fun a => match a with | ⟨0, _⟩ => rfl | ⟨1, _⟩ => rfl) _ _)

/-- The second program result is the first three columns of the second array. -/
theorem tail_coord : Pipeline.afterTail₀ cfgs (dats m) 0 (V0 m) [hostOps1] c main_v21
    = extractStridedSlice S2048x3 ![0, 0] ((dats m 0 c).arrAt 23 cfg0.N : FVec Ideal S2048x8 .f32) slices_S2048x8_S2048x3_0_0 := by
  unfold Pipeline.afterTail₀
  simp only [hostOps1, List.flatten_cons, List.flatten_nil, List.append_nil, StableHlo.after_cons, StableHlo.after_nil]
  refine (StableHlo.unary_result _ _ _ _ _ _).trans ?_
  exact congrArg (fun x : FVec Ideal S2048x8 .f32 => extractStridedSlice S2048x3 ![0, 0] x slices_S2048x8_S2048x3_0_0)
    (Pipeline.withArrays_arr spec0 (by decide) c (V0 m c) (fun w => (dats m 0 c).arrAt w cfg0.N) 23)

theorem result_feat : (dats m 0 c).arrAt 22 cfg0.N
    = feat (blocks m c).ec (blocks m c).er (blocks m c).rb ((blocks m c).w 1) (blocks m c).f1 :=
  (left_feat m c).trans (stored_feat _ _ _ _ _ _ _ _ _ _ _ _ _ _ _ _ _ _ _ _ _ _ (blocks m c) rfl)

theorem result_coord : (dats m 0 c).arrAt 23 cfg0.N
    = coord (blocks m c).ec (blocks m c).er (blocks m c).rb ((blocks m c).w 1) (blocks m c).f1 (blocks m c).c1 :=
  (left_coord m c).trans (stored_coord _ _ _ _ _ _ _ _ _ _ _ _ _ _ _ _ _ _ _ _ _ _ (blocks m c) rfl)

/-- The kernel runs, leaves the network's features and coordinates of its blocks, and its arguments unchanged. -/
theorem run : θ_run defs (onTc (τ := τ) (main (F := Ideal))) ⟨m, fun _ => 0, ρ⟩ (fun r => ∀ c : Dev nD,
      r.2.mem ((c.tc : Thread nD τ).loc main_v20_0) = feat (blocks m c).ec (blocks m c).er (blocks m c).rb ((blocks m c).w 1) (blocks m c).f1
      ∧ r.2.mem ((c.tc : Thread nD τ).loc main_v21) = extractStridedSlice S2048x3 ![0, 0]
          (coord (blocks m c).ec (blocks m c).er (blocks m c).rb ((blocks m c).w 1) (blocks m c).f1 (blocks m c).c1) slices_S2048x8_S2048x3_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine (θ_run defs _ _).mono (fun r h c => ?_) (θ_run_and (run_main m ρ) (unchanged m ρ))
  exact ⟨((h.1 c).1 22).trans (result_feat m c),
    ((h.1 c).2 main_v21 (Pipeline.mem_restRefs_of main_v21 (by decide) (by decide))).trans
      ((tail_coord m c).trans (congrArg (fun x : FVec Ideal S2048x8 .f32 => extractStridedSlice S2048x3 ![0, 0] x slices_S2048x8_S2048x3_0_0) (result_coord m c))),
    h.2 c⟩

end Cert.KernelIdeal.Net
-- ==== Proof.Pre.lean ====
/-
  What the precondition says: every entry of the edge list names one of the 512 nodes, and the value projection and the first
  normalization's scale and shift are finite.
-/
module

public import proofs.«01_k».proof.Pre_named_and_finite
public import Idealize.ShloMosaic.PureOps.Ideal
public import Idealize.ShloMosaic.Lib.ValueIdx
public import Idealize.ShloMosaic.Lib.Pipeline.Value

@[expose] public section

noncomputable section

namespace Cert.Pre_named_and_finite

open Idealize.ShloMosaic Idealize.ShloMosaic.ValueIdx

/-- The broadcasts the precondition performs are well formed. -/
theorem facts : Facts := ⟨by decide, by decide, by decide, by decide, by decide, by decide, by decide, by decide, by decide, by decide⟩

/-- A conjunction of two bits is one only if both are. -/
theorem both (a b : BitVec 1) (h : IntOp.andi a b = 1#1) : a = 1#1 ∧ b = 1#1 := by
  revert a b; decide

/-- A value whose magnitude is below infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have h1 : max x (-x) < ⊤ := by
    by_contra hc
    have : Ideal.cmp .olt (max x (-x)) ⊤ = 0#1 := congrArg BitVec.ofBool (decide_eq_false hc)
    rw [this] at h
    exact absurd h (by decide)
  have h2 := max_lt_iff.mp h1
  have hb : x ≠ ⊥ := by
    rintro rfl
    exact absurd h2.2 (by simp)
  exact ⟨x.toReal, (EReal.coe_toReal h2.1.ne hb).symm⟩

/-- A word at least zero and below 512 is a number below 512. -/
theorem small_of_le (x : BitVec 32) (h1 : IntOp.cmpi .sge x 0#32 = 1#1) (h2 : IntOp.cmpi .slt x 512#32 = 1#1) :
    ∃ s : Fin 512, x = BitVec.ofNat 32 s.val := by
  have ofBool_eq_one (p : Bool) : (BitVec.ofBool p = 1#1) ↔ p = true := by cases p <;> decide
  have g1 : BitVec.sle 0#32 x = true := (ofBool_eq_one _).mp h1
  have g2 : BitVec.slt x 512#32 = true := (ofBool_eq_one _).mp h2
  simp only [BitVec.sle, BitVec.slt, decide_eq_true_eq, BitVec.toInt, BitVec.toNat_ofNat] at g1 g2
  have hlt : x.toNat < 512 := by omega
  exact ⟨⟨x.toNat, hlt⟩, by simp⟩

variable (a0 : FVec Ideal S2048x128 .f32) (a1 : FVec Ideal S2048x3 .f32) (a2 : IVec S2x2048 32) (a3 : FVec Ideal S512x3 .f32)
  (a4 : IVec S512 32) (a5 a6 a7 a8 : FVec Ideal S2x128x128 .f32) (a9 : FVec Ideal S2x64x8 .f32) (a10 : FVec Ideal S2x8 .f32)
  (a11 : FVec Ideal S2x128x1 .f32) (a12 : FVec Ideal S2x128x512 .f32) (a13 : FVec Ideal S2x512 .f32)
  (a14 : FVec Ideal S2x512x128 .f32) (a15 a16 a17 a18 a19 : FVec Ideal S2x128 .f32)

/-- The precondition at one entry of each array it constrains. -/
theorem at_entry (h : (letI := facts; fn (F := Ideal) a0 a1 a2 a3 a4 a5 a6 a7 a8 a9 a10 a11 a12 a13 a14 a15 a16 a17 a18 a19) = fun _ => 1#1)
    (l : Fin 2) (i : Fin 2048) (d e : Fin 128) :
    (∃ s : Fin 512, a2 (ix2 l i) = BitVec.ofNat 32 s.val) ∧ (∃ r : ℝ, a16 (ix2 l d) = (r : EReal))
      ∧ (∃ r : ℝ, a17 (ix2 l d) = (r : EReal)) ∧ ∃ r : ℝ, a7 (ix3 l d e) = (r : EReal) := by
  letI := facts
  obtain ⟨h1, h2⟩ := both _ _ (congrFun h (ix4 l i d e))
  rw [broadcastInDim_apply _ _ _ _ (ix4 l i d (0 : Fin 1)) (fun a => match a with | ⟨0, _⟩ => rfl | ⟨1, _⟩ => rfl | ⟨2, _⟩ => rfl | ⟨3, _⟩ => rfl)] at h1
  rw [broadcastInDim_apply _ _ _ _ (ix4 l (0 : Fin 1) d e) (fun a => match a with | ⟨0, _⟩ => rfl | ⟨1, _⟩ => rfl | ⟨2, _⟩ => rfl | ⟨3, _⟩ => rfl),
    broadcastInDim_apply _ _ _ _ (ix3 l d e) (fun a => match a with | ⟨0, _⟩ => rfl | ⟨1, _⟩ => rfl | ⟨2, _⟩ => rfl)] at h2
  obtain ⟨h3, h4⟩ := both _ _ h1
  rw [broadcastInDim_apply _ _ _ _ (ix4 l i (0 : Fin 1) (0 : Fin 1)) (fun a => match a with | ⟨0, _⟩ => rfl | ⟨1, _⟩ => rfl | ⟨2, _⟩ => rfl | ⟨3, _⟩ => rfl),
    broadcastInDim_apply _ _ _ _ (ix2 l i) (fun a => match a with | ⟨0, _⟩ => rfl | ⟨1, _⟩ => rfl)] at h3
  rw [broadcastInDim_apply _ _ _ _ (ix4 l (0 : Fin 1) d (0 : Fin 1)) (fun a => match a with | ⟨0, _⟩ => rfl | ⟨1, _⟩ => rfl | ⟨2, _⟩ => rfl | ⟨3, _⟩ => rfl),
    broadcastInDim_apply _ _ _ _ (ix2 l d) (fun a => match a with | ⟨0, _⟩ => rfl | ⟨1, _⟩ => rfl)] at h4
  obtain ⟨h5, h6⟩ := both _ _ h3
  obtain ⟨h7, h8⟩ := both _ _ h4
  exact ⟨small_of_le _ h5 h6, real_of_lt _ h7, real_of_lt _ h8, real_of_lt _ h2⟩

end Cert.Pre_named_and_finite
-- ==== Proof.Meet.lean ====
/-
  What the kernel's blocks hold when it starts, what the reference's results are, and that the two agree.
-/
module

public import proofs.«01_k».proof.Proof.Agree
public import proofs.«01_k».proof.Proof.KResult
public import proofs.«01_k».proof.Proof.Pre
public import proofs.«01_k».proof.Proof.Gen.ReferenceIdeal.Run
public import proofs.«01_k».proof.Proof.Gen.ReferenceIdeal.Read

@[expose] public section

noncomputable section

namespace Cert.Agree

open Idealize.ShloMosaic hiding ix1 ix2 ix3
open Idealize.ShloMosaic.ValueIdx Idealize.SL.Sem Cert.KernelIdeal Cert.KernelIdeal.Gen Cert.KernelIdeal.Net
  Cert.Layer

section Kernel

variable (m : (ℓ : Loc nD τ sig) → Buf (Elt Ideal) ℓ) (c : Dev nD)

/-- The arguments the kernel is called with. -/
def args : ReferenceIdeal.Net.Args Ideal :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19)⟩

/-- Window 0's block. -/
theorem blocks_x0 : (blocks m c).x0 = V m c main_v2 := staged0 m c
/-- Window 1's block. -/
theorem blocks_x1 : (blocks m c).x1 = V m c main_v5 := staged1 m c
/-- Window 2's block. -/
theorem blocks_x2 : (blocks m c).x2 = V m c main_v7 := staged2 m c
/-- Window 3's block. -/
theorem blocks_x3 : (blocks m c).x3 = V m c main_v9 := staged3 m c
/-- Window 4's block. -/
theorem blocks_x4 : (blocks m c).x4 = V m c main_v10 := staged4 m c
/-- Window 5's block. -/
theorem blocks_x5 : (blocks m c).x5 = V m c main_arg0 := staged5 m c
/-- Window 6's block. -/
theorem blocks_x6 : (blocks m c).x6 = V m c main_v11 := staged6 m c
/-- Window 7's block. -/
theorem blocks_x7 : (blocks m c).x7 = V m c main_arg5 := staged7 m c
/-- Window 8's block. -/
theorem blocks_x8 : (blocks m c).x8 = V m c main_arg6 := staged8 m c
/-- Window 9's block. -/
theorem blocks_x9 : (blocks m c).x9 = V m c main_arg7 := staged9 m c
/-- Window 10's block. -/
theorem blocks_x10 : (blocks m c).x10 = V m c main_arg8 := staged10 m c
/-- Window 11's block. -/
theorem blocks_x11 : (blocks m c).x11 = V m c main_arg9 := staged11 m c
/-- Window 12's block. -/
theorem blocks_x12 : (blocks m c).x12 = V m c main_v12 := staged12 m c
/-- Window 13's block. -/
theorem blocks_x13 : (blocks m c).x13 = V m c main_v13 := staged13 m c
/-- Window 14's block. -/
theorem blocks_x14 : (blocks m c).x14 = V m c main_arg12 := staged14 m c
/-- Window 15's block. -/
theorem blocks_x15 : (blocks m c).x15 = V m c main_v14 := staged15 m c
/-- Window 16's block. -/
theorem blocks_x16 : (blocks m c).x16 = V m c main_arg14 := staged16 m c
/-- Window 17's block. -/
theorem blocks_x17 : (blocks m c).x17 = V m c main_v15 := staged17 m c
/-- Window 18's block. -/
theorem blocks_x18 : (blocks m c).x18 = V m c main_v16 := staged18 m c
/-- Window 19's block. -/
theorem blocks_x19 : (blocks m c).x19 = V m c main_v17 := staged19 m c
/-- Window 20's block. -/
theorem blocks_x20 : (blocks m c).x20 = V m c main_v18 := staged20 m c
/-- Window 21's block. -/
theorem blocks_x21 : (blocks m c).x21 = V m c main_v19 := staged21 m c

/-- The kernel's blocks hold its arguments. -/
theorem fed : Fed (blocks m c) (args m c) where
  x0 i := (congrFun ((blocks_x0 m c).trans (entry_v2 m c)) (ix2 i 0)).trans (edge_col (args m c).x2 0 _ _ _ i)
  x1 i := (congrFun ((blocks_x1 m c).trans (entry_v5 m c)) (ix2 i 0)).trans (edge_col (args m c).x2 1 _ _ _ i)
  x2 k := (congrFun ((blocks_x2 m c).trans (entry_v7 m c)) (ix2 0 k)).trans (lay_row _ _ k)
  x3 k := (congrFun ((blocks_x3 m c).trans (entry_v9 m c)) (ix2 k 0)).trans (lay_col _ _ k)
  x4 k n := (congrFun ((blocks_x4 m c).trans (entry_v10 m c)) (ix2 k (wide n))).trans (widen_in (args m c).x3 _ _ _ k n)
  pad k n hn := ((congrFun ((blocks_x4 m c).trans (entry_v10 m c)) (ix2 k n)).trans
    (widen_out (args m c).x3 _ _ _ k n hn)).trans (sitofp_zero (φ := .f32))
  x6 i n := (congrFun ((blocks_x6 m c).trans (entry_v11 m c)) (ix2 i (wide n))).trans (widen_in (args m c).x1 _ _ _ i n)
  x13 l j := (congrFun ((blocks_x13 m c).trans (entry_v13 m c)) (ix3 l 0 j)).trans (stack_col (args m c).x11 _ l j)
  x5 := (blocks_x5 m c).trans (V_main_arg0 m c)
  x7 := (blocks_x7 m c).trans (V_main_arg5 m c)
  x8 := (blocks_x8 m c).trans (V_main_arg6 m c)
  x9 := (blocks_x9 m c).trans (V_main_arg7 m c)
  x10 := (blocks_x10 m c).trans (V_main_arg8 m c)
  x11 := (blocks_x11 m c).trans (V_main_arg9 m c)
  x14 := (blocks_x14 m c).trans (V_main_arg12 m c)
  x16 := (blocks_x16 m c).trans (V_main_arg14 m c)
  x12 l j := (congrFun ((blocks_x12 m c).trans (entry_v12 m c)) (ix3 l 0 j)).trans (stack_row (args m c).x10 _ l j)
  x15 l j := (congrFun ((blocks_x15 m c).trans (entry_v14 m c)) (ix3 l 0 j)).trans (stack_row (args m c).x13 _ l j)
  x17 l j := (congrFun ((blocks_x17 m c).trans (entry_v15 m c)) (ix3 l 0 j)).trans (stack_row (args m c).x15 _ l j)
  x18 l j := (congrFun ((blocks_x18 m c).trans (entry_v16 m c)) (ix3 l 0 j)).trans (stack_row (args m c).x16 _ l j)
  x19 l j := (congrFun ((blocks_x19 m c).trans (entry_v17 m c)) (ix3 l 0 j)).trans (stack_row (args m c).x17 _ l j)
  x20 l j := (congrFun ((blocks_x20 m c).trans (entry_v18 m c)) (ix3 l 0 j)).trans (stack_row (args m c).x18 _ l j)
  x21 l j := (congrFun ((blocks_x21 m c).trans (entry_v19 m c)) (ix3 l 0 j)).trans (stack_row (args m c).x19 _ l j)

end Kernel

section Meets

variable {m : (ℓ : Loc nD τ sig) → Buf (Elt Ideal) ℓ} (c : Dev nD)
  (h : ∀ (l : Fin 2) (i : Fin 2048) (d e : Fin 128), (∃ s : Fin 512, (args m c).x2 (ix2 l i) = BitVec.ofNat 32 s.val)
    ∧ (∃ r : ℝ, (args m c).x16 (ix2 l d) = r) ∧ (∃ r : ℝ, (args m c).x17 (ix2 l d) = r)
    ∧ ∃ r : ℝ, (args m c).x7 (ix3 l d e) = r)

include h in
/-- The kernel's results are the reference's, of the arguments the kernel is called with. -/
theorem results :
    feat (blocks m c).ec (blocks m c).er (blocks m c).rb ((blocks m c).w 1) (blocks m c).f1
        = ReferenceIdeal.Net.feat (args m c).m (args m c).r ((args m c).w 1) (args m c).f1
      ∧ extractStridedSlice S2048x3 ![0, 0]
          (coord (blocks m c).ec (blocks m c).er (blocks m c).rb ((blocks m c).w 1) (blocks m c).f1 (blocks m c).c1) slices_S2048x8_S2048x3_0_0
        = ReferenceIdeal.Net.coord (args m c).m (args m c).r ((args m c).w 1) (args m c).f1 (args m c).c1 := by
  choose s hs using fun i => (h 0 i 0 0).1
  choose t ht using fun i => (h 1 i 0 0).1
  have hf := finite (a := args m c) (fun l d => (h l 0 d 0).2.1) (fun l d => (h l 0 d 0).2.2.1) fun l d e => (h l 0 d e).2.2.2
  exact ⟨last_feat (fed m c) s t hs ht hf, last_coord (fed m c) s t hs ht hf⟩

end Meets

end Cert.Agree

namespace Cert.ReferenceIdeal.Net

open Idealize.ShloMosaic Idealize.ShloMosaic.StableHlo Idealize.SL.Sem Cert.ReferenceIdeal

variable (m : (ℓ : Loc nD τ sig) → Buf (Elt Ideal) ℓ) (ρ : Dev nD → PrngReg) (c : Dev nD)

/-- The arguments the reference is called with. -/
def args : Args Ideal :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19)⟩

/-- The reference ends with its two results, as functions of its arguments, and its arguments as they were. -/
theorem run : θ_run defs (onTc (τ := τ) (main (F := Ideal))) ⟨m, fun _ => 0, ρ⟩ (fun r => ∀ c : Dev nD,
      r.2.mem ((c.tc : Thread nD τ).loc main_v339) = feat (args m c).m (args m c).r ((args m c).w 1) (args m c).f1
      ∧ r.2.mem ((c.tc : Thread nD τ).loc main_v299) = coord (args m c).m (args m c).r ((args m c).w 1) (args m c).f1 (args m c).c1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans ((Read.val_main_v339_eq (F := Ideal) (launchContents m c)).trans (args m c).out_feat),
    (h c).2.1.trans ((Read.val_main_v299_eq (F := Ideal) (launchContents m c)).trans (args m c).out_coord), (h c).2.2⟩)
    (Value.run (F := Ideal) m ρ)

end Cert.ReferenceIdeal.Net
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Meet
public import Idealize.ShloMosaic.Adequacy
public import Idealize.ShloMosaic.Init

@[expose] public section

noncomputable section

namespace Cert.Proof

open Idealize.ShloMosaic Idealize.SL.Sem

/-- The reference terminates on every input, with its arguments as they were and every semaphore at zero. -/
theorem reference_ends : letI := Cert.ReferenceIdeal.Gen.facts; Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Net.run m ρ)

/-- Called with the same arguments, which meet the precondition, the kernel and the reference return the same two results. -/
theorem same_results : letI := Cert.KernelIdeal.Gen.facts; letI := Cert.ReferenceIdeal.Gen.facts; letI := Cert.Pre_named_and_finite.facts;
    Cert.algebraic_KernelIdeal_ReferenceIdeal_pre_named_and_finite := by
  intro m g m' g' hpre hargs
  have e : ∀ c, Cert.ReferenceIdeal.Net.args m' c = Cert.Agree.args m c := fun c => by
    obtain ⟨h0, h1, h2, h3, h4, h5, h6, h7, h8, h9, h10, h11, h12, h13, h14, h15, h16, h17, h18, h19⟩ := hargs c
    unfold Cert.ReferenceIdeal.Net.args Cert.Agree.args
    rw [h0, h1, h2, h3, h4, h5, h6, h7, h8, h9, h10, h11, h12, h13, h14, h15, h16, h17, h18, h19]
  refine ⟨fun c => Cert.ReferenceIdeal.Net.feat (Cert.Agree.args m c).m (Cert.Agree.args m c).r ((Cert.Agree.args m c).w 1) (Cert.Agree.args m c).f1,
    fun c => Cert.ReferenceIdeal.Net.coord (Cert.Agree.args m c).m (Cert.Agree.args m c).r ((Cert.Agree.args m c).w 1) (Cert.Agree.args m c).f1 (Cert.Agree.args m c).c1, ?_, ?_⟩
  · refine (θ_run Cert.KernelIdeal.defs _ _).mono (fun r h c => ?_) (Cert.KernelIdeal.Net.run m g)
    obtain ⟨p, q⟩ := Cert.Agree.results (m := m) c (Cert.Pre_named_and_finite.at_entry _ _ _ _ _ _ _ _ _ _ _ _ _ _ _ _ _ _ _ _ (hpre c))
    exact ⟨(h c).1.trans p, (h c).2.1.trans q, (h c).2.2⟩
  · refine (θ_run Cert.ReferenceIdeal.defs _ _).mono (fun r h c => ?_) (Cert.ReferenceIdeal.Net.run m' g')
    have w := h c
    rw [e c] at w
    exact w

/-- Every claim holds. -/
theorem claim : Cert.Claim :=
  ⟨Cert.Kernel.Gen.facts, Cert.KernelIdeal.Gen.facts, Cert.ReferenceIdeal.Gen.facts, Cert.Pre_named_and_finite.facts,
    fun m ρ _ => Cert.Kernel.Gen.frame m ρ, fun m ρ _ => Cert.KernelIdeal.Gen.frame m ρ, fun m ρ _ => Cert.KernelIdeal.Gen.frame m ρ,
    reference_ends, fun m ρ _ => reference_ends m ρ trivial,
    IdealRules.named_const.statement Cert.KernelIdeal.κ "center_step" .f32 0x3E228A29#32 _ rfl, same_results⟩

end Cert.Proof

end
